-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![4, 2048, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S3x128x2048 : Shape := ⟨3, ![3, 128, 2048]⟩
abbrev S128x2048 : Shape := ⟨2, ![128, 2048]⟩
abbrev S3x2 : Shape := ⟨2, ![3, 2]⟩
abbrev S2x3 : Shape := ⟨2, ![2, 3]⟩
abbrev S2x8 : Shape := ⟨2, ![2, 8]⟩
abbrev S_ : Shape := ⟨0, ![]⟩
abbrev S1x1 : Shape := ⟨2, ![1, 1]⟩
abbrev S1x64x2048 : Shape := ⟨3, ![1, 64, 2048]⟩
abbrev S64x2048 : Shape := ⟨2, ![64, 2048]⟩
abbrev S64 : Shape := ⟨1, ![64]⟩
abbrev S64x1 : Shape := ⟨2, ![64, 1]⟩
abbrev S1x2048 : Shape := ⟨2, ![1, 2048]⟩
abbrev S32x2048 : Shape := ⟨2, ![32, 2048]⟩

abbrev nBuf : Space → Nat
  | .hbm => 4
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .local _ .vmem, ⟨0, _⟩ => ⟨S1x2048x2048, .f32⟩
  | .local _ .vmem, ⟨1, _⟩ => ⟨S2048, .f32⟩
  | .local _ .vmem, ⟨2, _⟩ => ⟨S2048x2048, .f32⟩
  | .local _ .vmem, ⟨3, _⟩ => ⟨S3x128x2048, .f32⟩
  | .local _ .vmem, ⟨4, _⟩ => ⟨S128x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v58 : BitVec 32 := Scalar.muli v2 c8_i32_31
  let v59 : BitVec 32 := Scalar.addi c0_i32_32 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v60 : BitVec 32 := Scalar.muli v5 c4_i32_33
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v20 : BitVec 32 := Scalar.addi v8 c3_i32
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_34 : BitVec 32 := 1#32
  let v62 : BitVec 32 := Scalar.muli v30 c1_i32_34
  let v63 : BitVec 32 := Scalar.addi v61 v62
  v63.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v64 : BitVec 32 := Scalar.muli v2 c8_i32_36
  let v65 : BitVec 32 := Scalar.addi c0_i32_37 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v66 : BitVec 32 := Scalar.muli v5 c4_i32_38
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_39 : BitVec 32 := 1#32
  let v68 : BitVec 32 := Scalar.muli v19 c1_i32_39
  let v69 : BitVec 32 := Scalar.addi v67 v68
  v69.toNat
def k0_dev3 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v70 : BitVec 32 := Scalar.muli v2 c8_i32_41
  let v71 : BitVec 32 := Scalar.addi c0_i32_42 v70
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_43 : BitVec 32 := 4#32
  let v72 : BitVec 32 := Scalar.muli v47 c4_i32_43
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v74 : BitVec 32 := Scalar.muli v8 c1_i32_44
  let v75 : BitVec 32 := Scalar.addi v73 v74
  v75.toNat
def k0_dev4 (d0 : Dev nD) : Nat :=
  let c0_i32_47 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_46 : BitVec 32 := 8#32
  let v76 : BitVec 32 := Scalar.muli v48 c8_i32_46
  let v77 : BitVec 32 := Scalar.addi c0_i32_47 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v78 : BitVec 32 := Scalar.muli v5 c4_i32_48
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v80 : BitVec 32 := Scalar.muli v8 c1_i32_49
  let v81 : BitVec 32 := Scalar.addi v79 v80
  v81.toNat
def k0_off1 (d0 : Dev nD) : Fin 2 → Nat :=
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c512_i32 : BitVec 32 := 512#32
  let v33 : BitVec 32 := Scalar.muli v32 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v34 : BitVec 32 := Scalar.addi v8 c1_i32_15
  let c4_i32_16 : BitVec 32 := 4#32
  let c0_i32_17 : BitVec 32 := 0#32
  let v35 : BitVec 1 := Scalar.cmpi .eq c4_i32_16 c0_i32_17
  let c1_i32_18 : BitVec 32 := 1#32
  let v36 : BitVec 32 := Scalar.select v35 c1_i32_18 c4_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c128_i32 : BitVec 32 := 128#32
  let v45 : BitVec 32 := Scalar.muli v44 c128_i32
  let v46 : BitVec 32 := Scalar.addi v33 v45
  let c0_i32_51 : BitVec 32 := 0#32
  ![v46.toNat, 0]
def k0_off2 (d0 : Dev nD) (c0_i32_53 : BitVec 32) : Fin 3 → Nat :=
  let c0_i32_54 : BitVec 32 := 0#32
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c512_i32 : BitVec 32 := 512#32
  let v33 : BitVec 32 := Scalar.muli v32 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_52 : BitVec 32 := 128#32
  let v83 : BitVec 32 := Scalar.muli v8 c128_i32_52
  let v84 : BitVec 32 := Scalar.addi v33 v83
  let v85 : BitVec 32 := Scalar.addi v84 c0_i32_53
  let c0_i32_66 : BitVec 32 := 0#32
  ![0, v85.toNat, 0]
def k0_dev5 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v86 : BitVec 32 := Scalar.muli v2 c8_i32_60
  let v87 : BitVec 32 := Scalar.addi c0_i32_61 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v88 : BitVec 32 := Scalar.muli v5 c4_i32_62
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_63 : BitVec 32 := 1#32
  let v90 : BitVec 32 := Scalar.muli v19 c1_i32_63
  let v91 : BitVec 32 := Scalar.addi v89 v90
  v91.toNat
def k0_dev6 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v103 : BitVec 32 := Scalar.muli v2 c8_i32_74
  let v104 : BitVec 32 := Scalar.addi c0_i32_75 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v105 : BitVec 32 := Scalar.muli v5 c4_i32_76
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_77 : BitVec 32 := 1#32
  let v107 : BitVec 32 := Scalar.muli v19 c1_i32_77
  let v108 : BitVec 32 := Scalar.addi v106 v107
  v108.toNat
def k0_off3 (d0 : Dev nD) (c3_i32_81 : BitVec 32) (c0_i32_104 : BitVec 32) : Fin 3 → Nat :=
  let c0_105 : Index := 0#32
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c512_i32 : BitVec 32 := 512#32
  let v33 : BitVec 32 := Scalar.muli v32 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v117 : BitVec 32 := Scalar.addi v8 c3_i32_81
  let c4_i32_82 : BitVec 32 := 4#32
  let c0_i32_83 : BitVec 32 := 0#32
  let v118 : BitVec 1 := Scalar.cmpi .eq c4_i32_82 c0_i32_83
  let c1_i32_84 : BitVec 32 := 1#32
  let v119 : BitVec 32 := Scalar.select v118 c1_i32_84 c4_i32_82
  let v120 : BitVec 32 := Scalar.remsi v117 v119
  let c0_i32_86 : BitVec 32 := 0#32
  let v122 : BitVec 1 := Scalar.cmpi .slt v120 c0_i32_86
  let c0_i32_87 : BitVec 32 := 0#32
  let v123 : BitVec 1 := Scalar.cmpi .slt v119 c0_i32_87
  let v124 : BitVec 1 := Scalar.xori v122 v123
  let c0_i32_85 : BitVec 32 := 0#32
  let v121 : BitVec 1 := Scalar.cmpi .ne v120 c0_i32_85
  let v125 : BitVec 1 := Scalar.andi v124 v121
  let v126 : BitVec 32 := Scalar.addi v120 v119
  let v127 : BitVec 32 := Scalar.select v125 v126 v120
  let c128_i32_103 : BitVec 32 := 128#32
  let v142 : BitVec 32 := Scalar.muli v127 c128_i32_103
  let v143 : BitVec 32 := Scalar.addi v33 v142
  let v144 : BitVec 32 := Scalar.addi v143 c0_i32_104
  let v145 : Index := Scalar.indexCast v144
  let c0_106 : Index := 0#32
  ![0, v145.toNat, 0]
def k0_dev7 (d0 : Dev nD) : Nat :=
  let c0_i32_117 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_116 : BitVec 32 := 8#32
  let v152 : BitVec 32 := Scalar.muli v2 c8_i32_116
  let v153 : BitVec 32 := Scalar.addi c0_i32_117 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_118 : BitVec 32 := 4#32
  let v154 : BitVec 32 := Scalar.muli v5 c4_i32_118
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_119 : BitVec 32 := 1#32
  let v156 : BitVec 32 := Scalar.muli v19 c1_i32_119
  let v157 : BitVec 32 := Scalar.addi v155 v156
  v157.toNat
def k0_dev8 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v201 : BitVec 32 := Scalar.muli v2 c8_i32_160
  let v202 : BitVec 32 := Scalar.addi c0_i32_161 v201
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_162 : BitVec 32 := 4#32
  let v203 : BitVec 32 := Scalar.muli v5 c4_i32_162
  let v204 : BitVec 32 := Scalar.addi v202 v203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_163 : BitVec 32 := 1#32
  let v205 : BitVec 32 := Scalar.muli v19 c1_i32_163
  let v206 : BitVec 32 := Scalar.addi v204 v205
  v206.toNat
def k0_off4 (d0 : Dev nD) (c0_i32_207 : BitVec 32) : Fin 2 → Nat :=
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c512_i32 : BitVec 32 := 512#32
  let v33 : BitVec 32 := Scalar.muli v32 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v34 : BitVec 32 := Scalar.addi v8 c1_i32_15
  let c4_i32_16 : BitVec 32 := 4#32
  let c0_i32_17 : BitVec 32 := 0#32
  let v35 : BitVec 1 := Scalar.cmpi .eq c4_i32_16 c0_i32_17
  let c1_i32_18 : BitVec 32 := 1#32
  let v36 : BitVec 32 := Scalar.select v35 c1_i32_18 c4_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c128_i32 : BitVec 32 := 128#32
  let v45 : BitVec 32 := Scalar.muli v44 c128_i32
  let v46 : BitVec 32 := Scalar.addi v33 v45
  let v270 : BitVec 32 := Scalar.addi v46 c0_i32_207
  let v271 : Index := Scalar.indexCast v270
  let c0_208 : Index := 0#32
  ![v271.toNat, 0]
def k0_off5 (d0 : Dev nD) (c0_i32_209 : BitVec 32) : Fin 2 → Nat :=
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c512_i32 : BitVec 32 := 512#32
  let v33 : BitVec 32 := Scalar.muli v32 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v34 : BitVec 32 := Scalar.addi v8 c1_i32_15
  let c4_i32_16 : BitVec 32 := 4#32
  let c0_i32_17 : BitVec 32 := 0#32
  let v35 : BitVec 1 := Scalar.cmpi .eq c4_i32_16 c0_i32_17
  let c1_i32_18 : BitVec 32 := 1#32
  let v36 : BitVec 32 := Scalar.select v35 c1_i32_18 c4_i32_16
  let v37 : BitVec 32 := Scalar.remsi v34 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c128_i32 : BitVec 32 := 128#32
  let v45 : BitVec 32 := Scalar.muli v44 c128_i32
  let v46 : BitVec 32 := Scalar.addi v33 v45
  let v273 : BitVec 32 := Scalar.addi v46 c0_i32_209
  let c0_i32_218 : BitVec 32 := 0#32
  ![v273.toNat, 0]
def k0_dev9 (d0 : Dev nD) : Nat :=
  let c0_i32_215 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_214 : BitVec 32 := 8#32
  let v274 : BitVec 32 := Scalar.muli v2 c8_i32_214
  let v275 : BitVec 32 := Scalar.addi c0_i32_215 v274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_216 : BitVec 32 := 4#32
  let v276 : BitVec 32 := Scalar.muli v5 c4_i32_216
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_217 : BitVec 32 := 1#32
  let v278 : BitVec 32 := Scalar.muli v19 c1_i32_217
  let v279 : BitVec 32 := Scalar.addi v277 v278
  v279.toNat
def k0_dev10 (d0 : Dev nD) : Nat :=
  let c0_i32_225 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_224 : BitVec 32 := 8#32
  let v286 : BitVec 32 := Scalar.muli v2 c8_i32_224
  let v287 : BitVec 32 := Scalar.addi c0_i32_225 v286
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_226 : BitVec 32 := 4#32
  let v288 : BitVec 32 := Scalar.muli v47 c4_i32_226
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v290 : BitVec 32 := Scalar.muli v8 c1_i32_227
  let v291 : BitVec 32 := Scalar.addi v289 v290
  v291.toNat
def k0_dev11 (d0 : Dev nD) : Nat :=
  let c0_i32_235 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_234 : BitVec 32 := 8#32
  let v298 : BitVec 32 := Scalar.muli v48 c8_i32_234
  let v299 : BitVec 32 := Scalar.addi c0_i32_235 v298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_236 : BitVec 32 := 4#32
  let v300 : BitVec 32 := Scalar.muli v5 c4_i32_236
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v302 : BitVec 32 := Scalar.muli v8 c1_i32_237
  let v303 : BitVec 32 := Scalar.addi v301 v302
  v303.toNat
def k0_dev12 (d0 : Dev nD) : Nat :=
  let c0_i32_276 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_275 : BitVec 32 := 8#32
  let v345 : BitVec 32 := Scalar.muli v2 c8_i32_275
  let v346 : BitVec 32 := Scalar.addi c0_i32_276 v345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_277 : BitVec 32 := 4#32
  let v347 : BitVec 32 := Scalar.muli v5 c4_i32_277
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_278 : BitVec 32 := 1#32
  let v349 : BitVec 32 := Scalar.muli v19 c1_i32_278
  let v350 : BitVec 32 := Scalar.addi v348 v349
  v350.toNat
def k0_dev13 (d0 : Dev nD) : Nat :=
  let c0_i32_321 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_320 : BitVec 32 := 8#32
  let v394 : BitVec 32 := Scalar.muli v2 c8_i32_320
  let v395 : BitVec 32 := Scalar.addi c0_i32_321 v394
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_322 : BitVec 32 := 4#32
  let v396 : BitVec 32 := Scalar.muli v5 c4_i32_322
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_323 : BitVec 32 := 1#32
  let v398 : BitVec 32 := Scalar.muli v19 c1_i32_323
  let v399 : BitVec 32 := Scalar.addi v397 v398
  v399.toNat
def k0_dev14 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v466 : BitVec 32 := Scalar.muli v2 c8_i32_375
  let v467 : BitVec 32 := Scalar.addi c0_i32_376 v466
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_377 : BitVec 32 := 4#32
  let v468 : BitVec 32 := Scalar.muli v5 c4_i32_377
  let v469 : BitVec 32 := Scalar.addi v467 v468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_378 : BitVec 32 := 1#32
  let v470 : BitVec 32 := Scalar.muli v19 c1_i32_378
  let v471 : BitVec 32 := Scalar.addi v469 v470
  v471.toNat
def k0_dev15 (d0 : Dev nD) : Nat :=
  let c0_i32_386 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_385 : BitVec 32 := 8#32
  let v478 : BitVec 32 := Scalar.muli v2 c8_i32_385
  let v479 : BitVec 32 := Scalar.addi c0_i32_386 v478
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_387 : BitVec 32 := 4#32
  let v480 : BitVec 32 := Scalar.muli v47 c4_i32_387
  let v481 : BitVec 32 := Scalar.addi v479 v480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_388 : BitVec 32 := 1#32
  let v482 : BitVec 32 := Scalar.muli v8 c1_i32_388
  let v483 : BitVec 32 := Scalar.addi v481 v482
  v483.toNat
def k0_dev16 (d0 : Dev nD) : Nat :=
  let c0_i32_396 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_395 : BitVec 32 := 8#32
  let v490 : BitVec 32 := Scalar.muli v48 c8_i32_395
  let v491 : BitVec 32 := Scalar.addi c0_i32_396 v490
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_397 : BitVec 32 := 4#32
  let v492 : BitVec 32 := Scalar.muli v5 c4_i32_397
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v494 : BitVec 32 := Scalar.muli v8 c1_i32_398
  let v495 : BitVec 32 := Scalar.addi v493 v494
  v495.toNat
def k0_off6 (d0 : Dev nD) (c0_i32_412 : BitVec 32) (c0_i32_420 : BitVec 32) : Fin 2 → Nat :=
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_14 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c512_i32 : BitVec 32 := 512#32
  let v33 : BitVec 32 := Scalar.muli v32 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_411 : BitVec 32 := 4#32
  let v512 : BitVec 32 := Scalar.addi v8 c4_i32_411
  let v513 : BitVec 32 := Scalar.subi v512 c0_i32_412
  let c4_i32_413 : BitVec 32 := 4#32
  let c0_i32_414 : BitVec 32 := 0#32
  let v514 : BitVec 1 := Scalar.cmpi .eq c4_i32_413 c0_i32_414
  let c1_i32_415 : BitVec 32 := 1#32
  let v515 : BitVec 32 := Scalar.select v514 c1_i32_415 c4_i32_413
  let v516 : BitVec 32 := Scalar.remsi v513 v515
  let c0_i32_417 : BitVec 32 := 0#32
  let v518 : BitVec 1 := Scalar.cmpi .slt v516 c0_i32_417
  let c0_i32_418 : BitVec 32 := 0#32
  let v519 : BitVec 1 := Scalar.cmpi .slt v515 c0_i32_418
  let v520 : BitVec 1 := Scalar.xori v518 v519
  let c0_i32_416 : BitVec 32 := 0#32
  let v517 : BitVec 1 := Scalar.cmpi .ne v516 c0_i32_416
  let v521 : BitVec 1 := Scalar.andi v520 v517
  let v522 : BitVec 32 := Scalar.addi v516 v515
  let v523 : BitVec 32 := Scalar.select v521 v522 v516
  let c128_i32_419 : BitVec 32 := 128#32
  let v524 : BitVec 32 := Scalar.muli v523 c128_i32_419
  let v525 : BitVec 32 := Scalar.addi v33 v524
  let v526 : BitVec 32 := Scalar.addi v525 c0_i32_420
  let c0_i32_429 : BitVec 32 := 0#32
  ![v526.toNat, 0]
def k0_dev17 (d0 : Dev nD) : Nat :=
  let c0_i32_426 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_425 : BitVec 32 := 8#32
  let v527 : BitVec 32 := Scalar.muli v2 c8_i32_425
  let v528 : BitVec 32 := Scalar.addi c0_i32_426 v527
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_427 : BitVec 32 := 4#32
  let v529 : BitVec 32 := Scalar.muli v5 c4_i32_427
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_428 : BitVec 32 := 1#32
  let v531 : BitVec 32 := Scalar.muli v19 c1_i32_428
  let v532 : BitVec 32 := Scalar.addi v530 v531
  v532.toNat
def k0_dev18 (d0 : Dev nD) : Nat :=
  let c0_i32_436 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_435 : BitVec 32 := 8#32
  let v539 : BitVec 32 := Scalar.muli v2 c8_i32_435
  let v540 : BitVec 32 := Scalar.addi c0_i32_436 v539
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_437 : BitVec 32 := 4#32
  let v541 : BitVec 32 := Scalar.muli v47 c4_i32_437
  let v542 : BitVec 32 := Scalar.addi v540 v541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_438 : BitVec 32 := 1#32
  let v543 : BitVec 32 := Scalar.muli v8 c1_i32_438
  let v544 : BitVec 32 := Scalar.addi v542 v543
  v544.toNat
def k0_dev19 (d0 : Dev nD) : Nat :=
  let c0_i32_446 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_445 : BitVec 32 := 8#32
  let v551 : BitVec 32 := Scalar.muli v48 c8_i32_445
  let v552 : BitVec 32 := Scalar.addi c0_i32_446 v551
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_447 : BitVec 32 := 4#32
  let v553 : BitVec 32 := Scalar.muli v5 c4_i32_447
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v555 : BitVec 32 := Scalar.muli v8 c1_i32_448
  let v556 : BitVec 32 := Scalar.addi v554 v555
  v556.toNat
def k0_off7 (d0 : Dev nD) (c0_i32_463 : BitVec 32) (c0_i32_471 : BitVec 32) : Fin 2 → Nat :=
  let c2_i32_24 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.muli c2_i32_24 v2
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let v51 : BitVec 32 := Scalar.addi v49 v50
  let c512_i32_26 : BitVec 32 := 512#32
  let v52 : BitVec 32 := Scalar.muli v51 c512_i32_26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_461 : BitVec 32 := 4#32
  let v573 : BitVec 32 := Scalar.addi v8 c4_i32_461
  let c1_i32_462 : BitVec 32 := 1#32
  let v574 : BitVec 32 := Scalar.addi v573 c1_i32_462
  let v575 : BitVec 32 := Scalar.subi v574 c0_i32_463
  let c4_i32_464 : BitVec 32 := 4#32
  let c0_i32_465 : BitVec 32 := 0#32
  let v576 : BitVec 1 := Scalar.cmpi .eq c4_i32_464 c0_i32_465
  let c1_i32_466 : BitVec 32 := 1#32
  let v577 : BitVec 32 := Scalar.select v576 c1_i32_466 c4_i32_464
  let v578 : BitVec 32 := Scalar.remsi v575 v577
  let c0_i32_468 : BitVec 32 := 0#32
  let v580 : BitVec 1 := Scalar.cmpi .slt v578 c0_i32_468
  let c0_i32_469 : BitVec 32 := 0#32
  let v581 : BitVec 1 := Scalar.cmpi .slt v577 c0_i32_469
  let v582 : BitVec 1 := Scalar.xori v580 v581
  let c0_i32_467 : BitVec 32 := 0#32
  let v579 : BitVec 1 := Scalar.cmpi .ne v578 c0_i32_467
  let v583 : BitVec 1 := Scalar.andi v582 v579
  let v584 : BitVec 32 := Scalar.addi v578 v577
  let v585 : BitVec 32 := Scalar.select v583 v584 v578
  let c128_i32_470 : BitVec 32 := 128#32
  let v586 : BitVec 32 := Scalar.muli v585 c128_i32_470
  let v587 : BitVec 32 := Scalar.addi v52 v586
  let v588 : BitVec 32 := Scalar.addi v587 c0_i32_471
  let c32_i32 : BitVec 32 := 32#32
  let v589 : BitVec 32 := Scalar.addi v588 c32_i32
  let c0_i32_480 : BitVec 32 := 0#32
  ![v589.toNat, 0]
def k0_dev20 (d0 : Dev nD) : Nat :=
  let c0_i32_477 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_476 : BitVec 32 := 8#32
  let v590 : BitVec 32 := Scalar.muli v48 c8_i32_476
  let v591 : BitVec 32 := Scalar.addi c0_i32_477 v590
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_478 : BitVec 32 := 4#32
  let v592 : BitVec 32 := Scalar.muli v5 c4_i32_478
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v594 : BitVec 32 := Scalar.muli v8 c1_i32_479
  let v595 : BitVec 32 := Scalar.addi v593 v594
  v595.toNat
def k0_dev21 (d0 : Dev nD) : Nat :=
  let c0_i32_507 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_506 : BitVec 32 := 8#32
  let v627 : BitVec 32 := Scalar.muli v2 c8_i32_506
  let v628 : BitVec 32 := Scalar.addi c0_i32_507 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_508 : BitVec 32 := 4#32
  let v629 : BitVec 32 := Scalar.muli v5 c4_i32_508
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_509 : BitVec 32 := 1#32
  let v631 : BitVec 32 := Scalar.muli v19 c1_i32_509
  let v632 : BitVec 32 := Scalar.addi v630 v631
  v632.toNat
def k0_dev22 (d0 : Dev nD) : Nat :=
  let c0_i32_517 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_516 : BitVec 32 := 8#32
  let v639 : BitVec 32 := Scalar.muli v2 c8_i32_516
  let v640 : BitVec 32 := Scalar.addi c0_i32_517 v639
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_518 : BitVec 32 := 4#32
  let v641 : BitVec 32 := Scalar.muli v47 c4_i32_518
  let v642 : BitVec 32 := Scalar.addi v640 v641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v643 : BitVec 32 := Scalar.muli v8 c1_i32_519
  let v644 : BitVec 32 := Scalar.addi v642 v643
  v644.toNat
def k0_dev23 (d0 : Dev nD) : Nat :=
  let c0_i32_527 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_526 : BitVec 32 := 8#32
  let v651 : BitVec 32 := Scalar.muli v48 c8_i32_526
  let v652 : BitVec 32 := Scalar.addi c0_i32_527 v651
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_528 : BitVec 32 := 4#32
  let v653 : BitVec 32 := Scalar.muli v5 c4_i32_528
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_529 : BitVec 32 := 1#32
  let v655 : BitVec 32 := Scalar.muli v8 c1_i32_529
  let v656 : BitVec 32 := Scalar.addi v654 v655
  v656.toNat
def k0_dev24 (d0 : Dev nD) : Nat :=
  let c0_i32_559 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_558 : BitVec 32 := 8#32
  let v690 : BitVec 32 := Scalar.muli v48 c8_i32_558
  let v691 : BitVec 32 := Scalar.addi c0_i32_559 v690
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_560 : BitVec 32 := 4#32
  let v692 : BitVec 32 := Scalar.muli v5 c4_i32_560
  let v693 : BitVec 32 := Scalar.addi v691 v692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v694 : BitVec 32 := Scalar.muli v8 c1_i32_561
  let v695 : BitVec 32 := Scalar.addi v693 v694
  v695.toNat
def k0_dev25 (d0 : Dev nD) : Nat :=
  let c0_i32_589 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_588 : BitVec 32 := 8#32
  let v727 : BitVec 32 := Scalar.muli v2 c8_i32_588
  let v728 : BitVec 32 := Scalar.addi c0_i32_589 v727
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_590 : BitVec 32 := 4#32
  let v729 : BitVec 32 := Scalar.muli v5 c4_i32_590
  let v730 : BitVec 32 := Scalar.addi v728 v729
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_591 : BitVec 32 := 1#32
  let v731 : BitVec 32 := Scalar.muli v19 c1_i32_591
  let v732 : BitVec 32 := Scalar.addi v730 v731
  v732.toNat
def k0_dev26 (d0 : Dev nD) : Nat :=
  let c0_i32_599 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_598 : BitVec 32 := 8#32
  let v739 : BitVec 32 := Scalar.muli v2 c8_i32_598
  let v740 : BitVec 32 := Scalar.addi c0_i32_599 v739
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_600 : BitVec 32 := 4#32
  let v741 : BitVec 32 := Scalar.muli v47 c4_i32_600
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_601 : BitVec 32 := 1#32
  let v743 : BitVec 32 := Scalar.muli v8 c1_i32_601
  let v744 : BitVec 32 := Scalar.addi v742 v743
  v744.toNat
def k0_dev27 (d0 : Dev nD) : Nat :=
  let c0_i32_609 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_608 : BitVec 32 := 8#32
  let v751 : BitVec 32 := Scalar.muli v48 c8_i32_608
  let v752 : BitVec 32 := Scalar.addi c0_i32_609 v751
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_610 : BitVec 32 := 4#32
  let v753 : BitVec 32 := Scalar.muli v5 c4_i32_610
  let v754 : BitVec 32 := Scalar.addi v752 v753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_611 : BitVec 32 := 1#32
  let v755 : BitVec 32 := Scalar.muli v8 c1_i32_611
  let v756 : BitVec 32 := Scalar.addi v754 v755
  v756.toNat
def k0_dev28 (d0 : Dev nD) : Nat :=
  let c0_i32_641 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_640 : BitVec 32 := 8#32
  let v790 : BitVec 32 := Scalar.muli v48 c8_i32_640
  let v791 : BitVec 32 := Scalar.addi c0_i32_641 v790
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_642 : BitVec 32 := 4#32
  let v792 : BitVec 32 := Scalar.muli v5 c4_i32_642
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_643 : BitVec 32 := 1#32
  let v794 : BitVec 32 := Scalar.muli v8 c1_i32_643
  let v795 : BitVec 32 := Scalar.addi v793 v794
  v795.toNat
def k0_dev29 (d0 : Dev nD) : Nat :=
  let c0_i32_671 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_670 : BitVec 32 := 8#32
  let v827 : BitVec 32 := Scalar.muli v2 c8_i32_670
  let v828 : BitVec 32 := Scalar.addi c0_i32_671 v827
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_672 : BitVec 32 := 4#32
  let v829 : BitVec 32 := Scalar.muli v5 c4_i32_672
  let v830 : BitVec 32 := Scalar.addi v828 v829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_673 : BitVec 32 := 1#32
  let v831 : BitVec 32 := Scalar.muli v19 c1_i32_673
  let v832 : BitVec 32 := Scalar.addi v830 v831
  v832.toNat
def k0_dev30 (d0 : Dev nD) : Nat :=
  let c0_i32_681 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_680 : BitVec 32 := 8#32
  let v839 : BitVec 32 := Scalar.muli v2 c8_i32_680
  let v840 : BitVec 32 := Scalar.addi c0_i32_681 v839
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_682 : BitVec 32 := 4#32
  let v841 : BitVec 32 := Scalar.muli v47 c4_i32_682
  let v842 : BitVec 32 := Scalar.addi v840 v841
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_683 : BitVec 32 := 1#32
  let v843 : BitVec 32 := Scalar.muli v8 c1_i32_683
  let v844 : BitVec 32 := Scalar.addi v842 v843
  v844.toNat
def k0_dev31 (d0 : Dev nD) : Nat :=
  let c0_i32_691 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_690 : BitVec 32 := 8#32
  let v851 : BitVec 32 := Scalar.muli v48 c8_i32_690
  let v852 : BitVec 32 := Scalar.addi c0_i32_691 v851
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_692 : BitVec 32 := 4#32
  let v853 : BitVec 32 := Scalar.muli v5 c4_i32_692
  let v854 : BitVec 32 := Scalar.addi v852 v853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v855 : BitVec 32 := Scalar.muli v8 c1_i32_693
  let v856 : BitVec 32 := Scalar.addi v854 v855
  v856.toNat
def k0_dev32 (d0 : Dev nD) : Nat :=
  let c0_i32_723 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_722 : BitVec 32 := 8#32
  let v890 : BitVec 32 := Scalar.muli v48 c8_i32_722
  let v891 : BitVec 32 := Scalar.addi c0_i32_723 v890
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_724 : BitVec 32 := 4#32
  let v892 : BitVec 32 := Scalar.muli v5 c4_i32_724
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_725 : BitVec 32 := 1#32
  let v894 : BitVec 32 := Scalar.muli v8 c1_i32_725
  let v895 : BitVec 32 := Scalar.addi v893 v894
  v895.toNat
def k0_dev33 (d0 : Dev nD) : Nat :=
  let c0_i32_753 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_752 : BitVec 32 := 8#32
  let v927 : BitVec 32 := Scalar.muli v2 c8_i32_752
  let v928 : BitVec 32 := Scalar.addi c0_i32_753 v927
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_754 : BitVec 32 := 4#32
  let v929 : BitVec 32 := Scalar.muli v47 c4_i32_754
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_755 : BitVec 32 := 1#32
  let v931 : BitVec 32 := Scalar.muli v8 c1_i32_755
  let v932 : BitVec 32 := Scalar.addi v930 v931
  v932.toNat
def k0_dev34 (d0 : Dev nD) : Nat :=
  let c0_i32_762 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_761 : BitVec 32 := 8#32
  let v939 : BitVec 32 := Scalar.muli v48 c8_i32_761
  let v940 : BitVec 32 := Scalar.addi c0_i32_762 v939
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_763 : BitVec 32 := 4#32
  let v941 : BitVec 32 := Scalar.muli v5 c4_i32_763
  let v942 : BitVec 32 := Scalar.addi v940 v941
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_764 : BitVec 32 := 1#32
  let v943 : BitVec 32 := Scalar.muli v8 c1_i32_764
  let v944 : BitVec 32 := Scalar.addi v942 v943
  v944.toNat
def k0_dev35 (d0 : Dev nD) : Nat :=
  let c0_i32_793 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_792 : BitVec 32 := 8#32
  let v978 : BitVec 32 := Scalar.muli v48 c8_i32_792
  let v979 : BitVec 32 := Scalar.addi c0_i32_793 v978
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_794 : BitVec 32 := 4#32
  let v980 : BitVec 32 := Scalar.muli v5 c4_i32_794
  let v981 : BitVec 32 := Scalar.addi v979 v980
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_795 : BitVec 32 := 1#32
  let v982 : BitVec 32 := Scalar.muli v8 c1_i32_795
  let v983 : BitVec 32 := Scalar.addi v981 v982
  v983.toNat
def k0_dev36 (d0 : Dev nD) : Nat :=
  let c0_i32_823 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_822 : BitVec 32 := 8#32
  let v1015 : BitVec 32 := Scalar.muli v2 c8_i32_822
  let v1016 : BitVec 32 := Scalar.addi c0_i32_823 v1015
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_824 : BitVec 32 := 4#32
  let v1017 : BitVec 32 := Scalar.muli v47 c4_i32_824
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_825 : BitVec 32 := 1#32
  let v1019 : BitVec 32 := Scalar.muli v8 c1_i32_825
  let v1020 : BitVec 32 := Scalar.addi v1018 v1019
  v1020.toNat
def k0_dev37 (d0 : Dev nD) : Nat :=
  let c0_i32_833 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_832 : BitVec 32 := 8#32
  let v1027 : BitVec 32 := Scalar.muli v48 c8_i32_832
  let v1028 : BitVec 32 := Scalar.addi c0_i32_833 v1027
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_834 : BitVec 32 := 4#32
  let v1029 : BitVec 32 := Scalar.muli v5 c4_i32_834
  let v1030 : BitVec 32 := Scalar.addi v1028 v1029
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_835 : BitVec 32 := 1#32
  let v1031 : BitVec 32 := Scalar.muli v8 c1_i32_835
  let v1032 : BitVec 32 := Scalar.addi v1030 v1031
  v1032.toNat
def k0_dev38 (d0 : Dev nD) : Nat :=
  let c0_i32_865 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_864 : BitVec 32 := 8#32
  let v1066 : BitVec 32 := Scalar.muli v48 c8_i32_864
  let v1067 : BitVec 32 := Scalar.addi c0_i32_865 v1066
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_866 : BitVec 32 := 4#32
  let v1068 : BitVec 32 := Scalar.muli v5 c4_i32_866
  let v1069 : BitVec 32 := Scalar.addi v1067 v1068
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_867 : BitVec 32 := 1#32
  let v1070 : BitVec 32 := Scalar.muli v8 c1_i32_867
  let v1071 : BitVec 32 := Scalar.addi v1069 v1070
  v1071.toNat
def k0_off8 (d0 : Dev nD) (c0_i32_888 : BitVec 32) : Fin 2 → Nat :=
  let c2_i32_24 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.muli c2_i32_24 v2
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let v51 : BitVec 32 := Scalar.addi v49 v50
  let c512_i32_26 : BitVec 32 := 512#32
  let v52 : BitVec 32 := Scalar.muli v51 c512_i32_26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_880 : BitVec 32 := 2#32
  let v1088 : BitVec 32 := Scalar.addi v8 c2_i32_880
  let c4_i32_881 : BitVec 32 := 4#32
  let c0_i32_882 : BitVec 32 := 0#32
  let v1089 : BitVec 1 := Scalar.cmpi .eq c4_i32_881 c0_i32_882
  let c1_i32_883 : BitVec 32 := 1#32
  let v1090 : BitVec 32 := Scalar.select v1089 c1_i32_883 c4_i32_881
  let v1091 : BitVec 32 := Scalar.remsi v1088 v1090
  let c0_i32_885 : BitVec 32 := 0#32
  let v1093 : BitVec 1 := Scalar.cmpi .slt v1091 c0_i32_885
  let c0_i32_886 : BitVec 32 := 0#32
  let v1094 : BitVec 1 := Scalar.cmpi .slt v1090 c0_i32_886
  let v1095 : BitVec 1 := Scalar.xori v1093 v1094
  let c0_i32_884 : BitVec 32 := 0#32
  let v1092 : BitVec 1 := Scalar.cmpi .ne v1091 c0_i32_884
  let v1096 : BitVec 1 := Scalar.andi v1095 v1092
  let v1097 : BitVec 32 := Scalar.addi v1091 v1090
  let v1098 : BitVec 32 := Scalar.select v1096 v1097 v1091
  let c128_i32_887 : BitVec 32 := 128#32
  let v1099 : BitVec 32 := Scalar.muli v1098 c128_i32_887
  let v1100 : BitVec 32 := Scalar.addi v52 v1099
  let v1101 : BitVec 32 := Scalar.addi v1100 c0_i32_888
  let c32_i32_889 : BitVec 32 := 32#32
  let v1102 : BitVec 32 := Scalar.addi v1101 c32_i32_889
  let c0_i32_897 : BitVec 32 := 0#32
  ![v1102.toNat, 0]
def k0_dev39 (d0 : Dev nD) : Nat :=
  let c0_i32_894 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_893 : BitVec 32 := 8#32
  let v1103 : BitVec 32 := Scalar.muli v48 c8_i32_893
  let v1104 : BitVec 32 := Scalar.addi c0_i32_894 v1103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_895 : BitVec 32 := 4#32
  let v1105 : BitVec 32 := Scalar.muli v5 c4_i32_895
  let v1106 : BitVec 32 := Scalar.addi v1104 v1105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_896 : BitVec 32 := 1#32
  let v1107 : BitVec 32 := Scalar.muli v8 c1_i32_896
  let v1108 : BitVec 32 := Scalar.addi v1106 v1107
  v1108.toNat
def k0_dev40 (d0 : Dev nD) : Nat :=
  let c0_i32_924 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v48 : BitVec 32 := Scalar.subi c1_i32_23 v2
  let c8_i32_923 : BitVec 32 := 8#32
  let v1140 : BitVec 32 := Scalar.muli v48 c8_i32_923
  let v1141 : BitVec 32 := Scalar.addi c0_i32_924 v1140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_925 : BitVec 32 := 4#32
  let v1142 : BitVec 32 := Scalar.muli v5 c4_i32_925
  let v1143 : BitVec 32 := Scalar.addi v1141 v1142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_926 : BitVec 32 := 1#32
  let v1144 : BitVec 32 := Scalar.muli v8 c1_i32_926
  let v1145 : BitVec 32 := Scalar.addi v1143 v1144
  v1145.toNat
def k0_off9 (d0 : Dev nD) (c0_i32_941 : BitVec 32) (c0_i32_949 : BitVec 32) : Fin 2 → Nat :=
  let c2_i32_28 : BitVec 32 := 2#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v53 : BitVec 32 := Scalar.subi c1_i32_27 v2
  let v54 : BitVec 32 := Scalar.muli c2_i32_28 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.addi v54 v5
  let c512_i32_29 : BitVec 32 := 512#32
  let v56 : BitVec 32 := Scalar.muli v55 c512_i32_29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_939 : BitVec 32 := 4#32
  let v1162 : BitVec 32 := Scalar.addi v8 c4_i32_939
  let c1_i32_940 : BitVec 32 := 1#32
  let v1163 : BitVec 32 := Scalar.addi v1162 c1_i32_940
  let v1164 : BitVec 32 := Scalar.subi v1163 c0_i32_941
  let c4_i32_942 : BitVec 32 := 4#32
  let c0_i32_943 : BitVec 32 := 0#32
  let v1165 : BitVec 1 := Scalar.cmpi .eq c4_i32_942 c0_i32_943
  let c1_i32_944 : BitVec 32 := 1#32
  let v1166 : BitVec 32 := Scalar.select v1165 c1_i32_944 c4_i32_942
  let v1167 : BitVec 32 := Scalar.remsi v1164 v1166
  let c0_i32_946 : BitVec 32 := 0#32
  let v1169 : BitVec 1 := Scalar.cmpi .slt v1167 c0_i32_946
  let c0_i32_947 : BitVec 32 := 0#32
  let v1170 : BitVec 1 := Scalar.cmpi .slt v1166 c0_i32_947
  let v1171 : BitVec 1 := Scalar.xori v1169 v1170
  let c0_i32_945 : BitVec 32 := 0#32
  let v1168 : BitVec 1 := Scalar.cmpi .ne v1167 c0_i32_945
  let v1172 : BitVec 1 := Scalar.andi v1171 v1168
  let v1173 : BitVec 32 := Scalar.addi v1167 v1166
  let v1174 : BitVec 32 := Scalar.select v1172 v1173 v1167
  let c128_i32_948 : BitVec 32 := 128#32
  let v1175 : BitVec 32 := Scalar.muli v1174 c128_i32_948
  let v1176 : BitVec 32 := Scalar.addi v56 v1175
  let v1177 : BitVec 32 := Scalar.addi v1176 c0_i32_949
  let c0_i32_958 : BitVec 32 := 0#32
  ![v1177.toNat, 0]
def k0_dev41 (d0 : Dev nD) : Nat :=
  let c0_i32_955 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_954 : BitVec 32 := 8#32
  let v1178 : BitVec 32 := Scalar.muli v2 c8_i32_954
  let v1179 : BitVec 32 := Scalar.addi c0_i32_955 v1178
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_956 : BitVec 32 := 4#32
  let v1180 : BitVec 32 := Scalar.muli v47 c4_i32_956
  let v1181 : BitVec 32 := Scalar.addi v1179 v1180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_957 : BitVec 32 := 1#32
  let v1182 : BitVec 32 := Scalar.muli v8 c1_i32_957
  let v1183 : BitVec 32 := Scalar.addi v1181 v1182
  v1183.toNat
def k0_dev42 (d0 : Dev nD) : Nat :=
  let c0_i32_986 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_985 : BitVec 32 := 8#32
  let v1216 : BitVec 32 := Scalar.muli v2 c8_i32_985
  let v1217 : BitVec 32 := Scalar.addi c0_i32_986 v1216
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_987 : BitVec 32 := 4#32
  let v1218 : BitVec 32 := Scalar.muli v47 c4_i32_987
  let v1219 : BitVec 32 := Scalar.addi v1217 v1218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1220 : BitVec 32 := Scalar.muli v8 c1_i32_988
  let v1221 : BitVec 32 := Scalar.addi v1219 v1220
  v1221.toNat
def k0_dev43 (d0 : Dev nD) : Nat :=
  let c0_i32_1017 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1016 : BitVec 32 := 8#32
  let v1254 : BitVec 32 := Scalar.muli v2 c8_i32_1016
  let v1255 : BitVec 32 := Scalar.addi c0_i32_1017 v1254
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_1018 : BitVec 32 := 4#32
  let v1256 : BitVec 32 := Scalar.muli v47 c4_i32_1018
  let v1257 : BitVec 32 := Scalar.addi v1255 v1256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1019 : BitVec 32 := 1#32
  let v1258 : BitVec 32 := Scalar.muli v8 c1_i32_1019
  let v1259 : BitVec 32 := Scalar.addi v1257 v1258
  v1259.toNat
def k0_dev44 (d0 : Dev nD) : Nat :=
  let c0_i32_1048 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1047 : BitVec 32 := 8#32
  let v1292 : BitVec 32 := Scalar.muli v2 c8_i32_1047
  let v1293 : BitVec 32 := Scalar.addi c0_i32_1048 v1292
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_1049 : BitVec 32 := 4#32
  let v1294 : BitVec 32 := Scalar.muli v47 c4_i32_1049
  let v1295 : BitVec 32 := Scalar.addi v1293 v1294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1050 : BitVec 32 := 1#32
  let v1296 : BitVec 32 := Scalar.muli v8 c1_i32_1050
  let v1297 : BitVec 32 := Scalar.addi v1295 v1296
  v1297.toNat
def k0_dev45 (d0 : Dev nD) : Nat :=
  let c0_i32_1079 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1078 : BitVec 32 := 8#32
  let v1330 : BitVec 32 := Scalar.muli v2 c8_i32_1078
  let v1331 : BitVec 32 := Scalar.addi c0_i32_1079 v1330
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_1080 : BitVec 32 := 4#32
  let v1332 : BitVec 32 := Scalar.muli v47 c4_i32_1080
  let v1333 : BitVec 32 := Scalar.addi v1331 v1332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1081 : BitVec 32 := 1#32
  let v1334 : BitVec 32 := Scalar.muli v8 c1_i32_1081
  let v1335 : BitVec 32 := Scalar.addi v1333 v1334
  v1335.toNat
def k0_dev46 (d0 : Dev nD) : Nat :=
  let c0_i32_1110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1109 : BitVec 32 := 8#32
  let v1368 : BitVec 32 := Scalar.muli v2 c8_i32_1109
  let v1369 : BitVec 32 := Scalar.addi c0_i32_1110 v1368
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_1111 : BitVec 32 := 4#32
  let v1370 : BitVec 32 := Scalar.muli v47 c4_i32_1111
  let v1371 : BitVec 32 := Scalar.addi v1369 v1370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1112 : BitVec 32 := 1#32
  let v1372 : BitVec 32 := Scalar.muli v8 c1_i32_1112
  let v1373 : BitVec 32 := Scalar.addi v1371 v1372
  v1373.toNat
def k0_dev47 (d0 : Dev nD) : Nat :=
  let c0_i32_1141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1140 : BitVec 32 := 8#32
  let v1406 : BitVec 32 := Scalar.muli v2 c8_i32_1140
  let v1407 : BitVec 32 := Scalar.addi c0_i32_1141 v1406
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_1142 : BitVec 32 := 4#32
  let v1408 : BitVec 32 := Scalar.muli v47 c4_i32_1142
  let v1409 : BitVec 32 := Scalar.addi v1407 v1408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1143 : BitVec 32 := 1#32
  let v1410 : BitVec 32 := Scalar.muli v8 c1_i32_1143
  let v1411 : BitVec 32 := Scalar.addi v1409 v1410
  v1411.toNat
def k0_dev48 (d0 : Dev nD) : Nat :=
  let c0_i32_1172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1171 : BitVec 32 := 8#32
  let v1444 : BitVec 32 := Scalar.muli v2 c8_i32_1171
  let v1445 : BitVec 32 := Scalar.addi c0_i32_1172 v1444
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_22 v5
  let c4_i32_1173 : BitVec 32 := 4#32
  let v1446 : BitVec 32 := Scalar.muli v47 c4_i32_1173
  let v1447 : BitVec 32 := Scalar.addi v1445 v1446
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1174 : BitVec 32 := 1#32
  let v1448 : BitVec 32 := Scalar.muli v8 c1_i32_1174
  let v1449 : BitVec 32 := Scalar.addi v1447 v1448
  v1449.toNat
abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Tables.lean ====
/-
# The protocol's tables

Sixteen devices on a 2 × 2 × 4 mesh, logical id `8 x + 4 y + z`. Each device makes forty-four transfers to a
neighbour; this module names them, gives each its neighbour, the rows of the result it moves, its two semaphores and
its place in the program's order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Tactic.DeriveFintype

@[expose] public section

namespace Cert.K7

open Cert.KernelIdeal Cert.KernelIdeal.Gen
open Idealize.ShloMosaic Idealize.ShloMosaic.TcCoe

/-! ## Devices -/

/-- The next device along `z`. -/
def right (c : Dev nD) : Dev nD := ⟨4 * (c.val / 4) + (c.val % 4 + 1) % 4, by have h : c.val < 16 := c.isLt; show _ < 16; omega⟩
/-- The previous device along `z`. -/
def left (c : Dev nD) : Dev nD := ⟨4 * (c.val / 4) + (c.val % 4 + 3) % 4, by have h : c.val < 16 := c.isLt; show _ < 16; omega⟩
/-- The device across `y`. -/
def acrossY (c : Dev nD) : Dev nD := ⟨8 * (c.val / 8) + 4 * (1 - c.val / 4 % 2) + c.val % 4, by have h : c.val < 16 := c.isLt; show _ < 16; omega⟩
/-- The device across `x`. -/
def acrossX (c : Dev nD) : Dev nD := ⟨8 * (1 - c.val / 8) + c.val % 8, by have h : c.val < 16 := c.isLt; show _ < 16; omega⟩

theorem right_left (c : Dev nD) : right (left c) = c := by revert c; decide +kernel
theorem left_right (c : Dev nD) : left (right c) = c := by revert c; decide +kernel
theorem acrossY_acrossY (c : Dev nD) : acrossY (acrossY c) = c := by revert c; decide +kernel
theorem acrossX_acrossX (c : Dev nD) : acrossX (acrossX c) = c := by revert c; decide +kernel

/-! ## Transfers -/

/-- The transfers a device makes: `rs s g` step `s` of the reduce-scatter ring on half `g`; `ag g s` step `s` of the
    all-gather ring; `y g t` and `x g t` slot `t` of the distributions across `y` and across `x`. -/
inductive Tr where
  | rs (s : Fin 3) (g : Fin 2)
  | ag (g : Fin 2) (s : Fin 3)
  | y (g : Fin 2) (t : Fin 8)
  | x (g : Fin 2) (t : Fin 8)
deriving DecidableEq, Fintype

/-- The class of a transfer, by the neighbour it goes to. -/
def Tr.cls : Tr → Fin 4
  | .rs _ _ | .ag _ _ => 0
  | .y _ _ => 2
  | .x _ _ => 3

/-- Who hears device `c`'s barrier signal number `k`. -/
def sgn (k : Fin 4) (c : Dev nD) : Dev nD := match k with
  | 0 => left c
  | 1 => right c
  | 2 => acrossY c
  | 3 => acrossX c

/-- The device whose barrier signal number `k` reaches `c`; where `c`'s transfers of class `k` go. -/
def sgn' (k : Fin 4) (c : Dev nD) : Dev nD := match k with
  | 0 => right c
  | 1 => left c
  | 2 => acrossY c
  | 3 => acrossX c

theorem sgn_sgn' (k : Fin 4) (c : Dev nD) : sgn k (sgn' k c) = c := by revert k c; decide +kernel
theorem sgn'_sgn (k : Fin 4) (c : Dev nD) : sgn' k (sgn k c) = c := by revert k c; decide +kernel

/-- The target of transfer `j` of device `c`. -/
def dst (j : Tr) (c : Dev nD) : Dev nD := sgn' j.cls c
/-- The device whose transfer `j` reaches `c`. -/
def frm (j : Tr) (c : Dev nD) : Dev nD := sgn j.cls c

theorem dst_frm (j : Tr) (c : Dev nD) : dst j (frm j c) = c := sgn'_sgn _ _
theorem frm_dst (j : Tr) (c : Dev nD) : frm j (dst j c) = c := sgn_sgn' _ _

/-- Transfer `j`'s place in a device's program order. -/
def Tr.pos : Tr → ℕ
  | .rs s g => if s.val = 0 then g.val else 1 + s.val + 5 * g.val
  | .ag g s => if s.val = 0 then 4 + 5 * g.val else 12 + 8 * (s.val - 1) + 4 * g.val
  | .y g t => if t.val = 0 then 5 + 5 * g.val else if t.val < 3 then 13 + 8 * (t.val - 1) + 4 * g.val
      else if t.val = 3 then 28 + 3 * g.val else 36 + 2 * (t.val - 4) + g.val
  | .x g t => if t.val = 0 then 6 + 5 * g.val else if t.val = 6 then 29 + 3 * g.val else if t.val = 5 then 30 + 3 * g.val
      else if t.val = 7 then 34 + g.val else (if t.val % 2 = 0 then 14 else 15) + 8 * ((t.val - 1) / 2) + 4 * g.val

theorem pos_lt (j : Tr) : j.pos < 44 := by revert j; decide +kernel
theorem pos_inj : ∀ j j' : Tr, j.pos = j'.pos → j = j' := by decide +kernel

/-! ## Rows of the result -/

/-- The rows a device's own quarter of the result starts at. -/
def quarter (c : Dev nD) : ℕ := 512 * (c.val / 4)

/-- Where in a quarter block number `t` of the ring starts, counted from the device's own. -/
def blk (t : ℕ) (c : Dev nD) : ℕ := 128 * ((c.val % 4 + 5 - t) % 4)

/-- The first row of the result that transfer `j` of device `c` moves (unused for the reduce-scatter). -/
def rowOf (j : Tr) (c : Dev nD) : ℕ := match j with
  | .rs _ _ => 0
  | .ag g s => quarter c + blk s.val c + 64 * g.val
  | .y g t => if t.val < 4 then quarter c + blk t.val c + 64 * g.val else quarter (acrossX c) + blk (t.val - 4) c + 64 * g.val
  | .x g t => if t.val % 2 = 0 then quarter c + blk (t.val / 2) c + 64 * g.val
      else quarter (acrossY c) + blk (t.val / 2) c + 64 * g.val + 32

/-- How many rows of the result transfer `j` moves (none for the reduce-scatter). -/
def Tr.len : Tr → ℕ
  | .rs _ _ => 0
  | .ag _ _ => 64
  | .y _ t => if t.val < 4 then 64 else 32
  | .x _ t => if t.val % 2 = 0 then 64 else 32

/-- The first row of half `g` of the block a device normalizes. -/
def ownRow (g : Fin 2) (c : Dev nD) : ℕ := quarter c + blk 0 c + 64 * g.val

/-- The row of the partial sums that step `t` of the ring takes for half `g`: `t = 0` what is sent first,
    `t = s + 1` what is added at step `s`. -/
def partRow (t : ℕ) (g : Fin 2) (c : Dev nD) : ℕ := quarter c + 128 * ((c.val % 4 + 4 - t) % 4) + 64 * g.val

theorem ownRow_le (g : Fin 2) (c : Dev nD) : ownRow g c + 64 ≤ 2048 := by revert g c; decide +kernel
theorem partRow_le (t : Fin 4) (g : Fin 2) (c : Dev nD) : partRow t.val g c + 64 ≤ 2048 := by revert t g c; decide +kernel
theorem rowOf_le (j : Tr) (c : Dev nD) : rowOf j c + j.len ≤ 2048 := by revert j c; decide +kernel

/-! ## Semaphores -/

/-- The send semaphore of transfer `j`. -/
def sndSem (j : Tr) : DmaSem sig := match j with
  | .rs s g => ⟨3 + 2 * s.val + g.val, by have := s.isLt; have := g.isLt; show _ < 92; omega⟩
  | .ag g s => ⟨15 + 3 * g.val + s.val, by have := s.isLt; have := g.isLt; show _ < 92; omega⟩
  | .y g t => ⟨27 + 8 * g.val + t.val, by have := t.isLt; have := g.isLt; show _ < 92; omega⟩
  | .x g t => ⟨59 + 8 * g.val + t.val, by have := t.isLt; have := g.isLt; show _ < 92; omega⟩

/-- The receive semaphore of transfer `j`. -/
def rcvSem (j : Tr) : DmaSem sig := match j with
  | .rs s g => ⟨9 + 2 * s.val + g.val, by have := s.isLt; have := g.isLt; show _ < 92; omega⟩
  | .ag g s => ⟨21 + 3 * g.val + s.val, by have := s.isLt; have := g.isLt; show _ < 92; omega⟩
  | .y g t => ⟨43 + 8 * g.val + t.val, by have := t.isLt; have := g.isLt; show _ < 92; omega⟩
  | .x g t => ⟨75 + 8 * g.val + t.val, by have := t.isLt; have := g.isLt; show _ < 92; omega⟩

/-- The semaphore of the residual's local copy. -/
def resSem : DmaSem sig := ⟨91, by decide⟩

/-- The barrier semaphore. -/
abbrev barSem : Sem sig := sig.barrier 0 rfl

/-- What a DMA semaphore is for. -/
inductive Role where
  | snd (j : Tr)
  | rcv (j : Tr)
  | res
deriving DecidableEq, Fintype

/-- The transfer of each family whose semaphores stand `n` places into its array. -/
def famRs (n : ℕ) : Tr := .rs (Fin.ofNat 3 (n / 2)) (Fin.ofNat 2 (n % 2))
def famAg (n : ℕ) : Tr := .ag (Fin.ofNat 2 (n / 3)) (Fin.ofNat 3 (n % 3))
def famY (n : ℕ) : Tr := .y (Fin.ofNat 2 (n / 8)) (Fin.ofNat 8 (n % 8))
def famX (n : ℕ) : Tr := .x (Fin.ofNat 2 (n / 8)) (Fin.ofNat 8 (n % 8))

/-- What DMA semaphore number `n` is for: the first three are the pipeline's own. -/
def role (n : ℕ) : Option Role :=
  if n < 3 then none
  else if n < 9 then some (.snd (famRs (n - 3))) else if n < 15 then some (.rcv (famRs (n - 9)))
  else if n < 21 then some (.snd (famAg (n - 15))) else if n < 27 then some (.rcv (famAg (n - 21)))
  else if n < 43 then some (.snd (famY (n - 27))) else if n < 59 then some (.rcv (famY (n - 43)))
  else if n < 75 then some (.snd (famX (n - 59))) else if n < 91 then some (.rcv (famX (n - 75)))
  else some .res

/-- The semaphore of a role. -/
def Role.sem : Role → DmaSem sig
  | .snd j => sndSem j
  | .rcv j => rcvSem j
  | .res => resSem

theorem role_sem (r : Role) : role r.sem.val = some r := by revert r; decide +kernel
theorem sem_ge (r : Role) : 3 ≤ r.sem.val := by revert r; decide +kernel
theorem sem_inj {r r' : Role} (h : r.sem = r'.sem) : r = r' :=
  Option.some.inj ((role_sem r).symm.trans ((congrArg (fun n : DmaSem sig => role n.val) h).trans (role_sem r')))

end Cert.K7
-- ==== Proof.Contents.lean ====
/-
# What the buffers hold

The contents each buffer holds at each stage, as functions of the memory at launch, for any float values `F`: the
partial sums carried round the ring, the normalized block of each device, and the whole result, which is one function
for all devices.
-/
module

public import proofs.«01_k».proof.Proof.Tables
public import Idealize.ShloMosaic.Lib.ValueIdxCore
public import Idealize.ShloMosaic.Lib.ValueLayout

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 4)

/-! ## Memrefs -/

abbrev pM : Memref sig .tc .vmem S1x2048x2048 .f32 := Memref.whole cc0_stg0_0
abbrev gM : Memref sig .tc .vmem S2048 .f32 := Memref.whole cc0_stg1_0
abbrev oM : Memref sig .tc .vmem S2048x2048 .f32 := Memref.whole cc0_stg2_0
abbrev rM : Memref sig .tc .vmem S3x128x2048 .f32 := Memref.whole cc0_scratch0
abbrev kM : Memref sig .tc .vmem S128x2048 .f32 := Memref.whole cc0_scratch1
abbrev aM : Memref sig .tc .hbm S2048x2048 .f32 := Memref.whole main_arg1

/-! ## Regions -/

/-- Rows `lo … lo + n - 1` of a 2048 × 2048 buffer. -/
def rows (lo n : ℕ) : Finset S2048x2048.Idx := Finset.univ.filter fun i => lo ≤ (i 0).val ∧ (i 0).val < lo + n
/-- Rows `lo … lo + 63` of the partial-sum block. -/
def prows (lo : ℕ) : Finset S1x2048x2048.Idx := Finset.univ.filter fun i => lo ≤ (i 1).val ∧ (i 1).val < lo + 64
/-- Half `g` of slot `s` of the ring's landing buffer. -/
def slab (s : Fin 3) (g : Fin 2) : Finset S3x128x2048.Idx :=
  Finset.univ.filter fun i => (i 0).val = s.val ∧ 64 * g.val ≤ (i 1).val ∧ (i 1).val < 64 * g.val + 64

theorem mem_rows {lo n : ℕ} {i : S2048x2048.Idx} : i ∈ rows lo n ↔ lo ≤ (i 0).val ∧ (i 0).val < lo + n := by simp [rows]
theorem mem_prows {lo : ℕ} {i : S1x2048x2048.Idx} : i ∈ prows lo ↔ lo ≤ (i 1).val ∧ (i 1).val < lo + 64 := by simp [prows]
theorem mem_slab {s : Fin 3} {g : Fin 2} {i : S3x128x2048.Idx} :
    i ∈ slab s g ↔ (i 0).val = s.val ∧ 64 * g.val ≤ (i 1).val ∧ (i 1).val < 64 * g.val + 64 := by simp [slab]

/-- A block of whole rows of a 2048 × 2048 buffer is its rows. -/
theorem set_rows {lo n : ℕ} {off size : Fin 2 → ℕ} (ho : off = ![lo, 0]) (hs : size = ![n, 2048])
    (inb : ∀ a, off a + size a ≤ S2048x2048.size a) : (Rect.unit (s := S2048x2048) off size inb).set = rows lo n := by
  subst ho; subst hs
  ext i
  rw [Rect.mem_set_unit, mem_rows, Fin.forall_fin_two]
  have h1 : (i 1).val < 2048 := (i 1).isLt
  show (lo ≤ (i 0).val ∧ (i 0).val < lo + n) ∧ (0 ≤ (i 1).val ∧ (i 1).val < 0 + 2048) ↔ _
  omega

/-- Likewise of the partial-sum block. -/
theorem set_prows {lo : ℕ} {off : Fin 3 → ℕ} (ho : off = ![0, lo, 0])
    (inb : ∀ a, off a + S1x64x2048.size a ≤ S1x2048x2048.size a) :
    (Rect.unit (s := S1x2048x2048) off S1x64x2048.size inb).set = prows lo := by
  subst ho
  ext i
  rw [Rect.mem_set_unit, mem_prows]
  have h0 : (i 0).val < 1 := (i 0).isLt
  have h2 : (i 2).val < 2048 := (i 2).isLt
  rw [Fin.forall_fin_succ, Fin.forall_fin_two]
  show (0 ≤ (i 0).val ∧ (i 0).val < 0 + 1) ∧ (lo ≤ (i 1).val ∧ (i 1).val < lo + 64) ∧ (0 ≤ (i 2).val ∧ (i 2).val < 0 + 2048) ↔ _
  omega

/-- And of the ring's landing buffer. -/
theorem set_slab {s : Fin 3} {g : Fin 2} {off : Fin 3 → ℕ} (ho : off = ![s.val, 64 * g.val, 0])
    (inb : ∀ a, off a + S1x64x2048.size a ≤ S3x128x2048.size a) :
    (Rect.unit (s := S3x128x2048) off S1x64x2048.size inb).set = slab s g := by
  subst ho
  ext i
  rw [Rect.mem_set_unit, mem_slab]
  have h2 : (i 2).val < 2048 := (i 2).isLt
  rw [Fin.forall_fin_succ, Fin.forall_fin_two]
  show (s.val ≤ (i 0).val ∧ (i 0).val < s.val + 1) ∧ (64 * g.val ≤ (i 1).val ∧ (i 1).val < 64 * g.val + 64) ∧ (0 ≤ (i 2).val ∧ (i 2).val < 0 + 2048) ↔ _
  omega

/-! ## Reading a block of 64 rows -/

/-- The 64 rows of the partial-sum block at row `lo`, read as a 64 × 2048 array. -/
theorem read_prows {lo : ℕ} {off : Fin 3 → ℕ} (ho : off = ![0, lo, 0]) (hlo : lo + 64 ≤ 2048)
    (inb : ∀ a, off a + S1x64x2048.size a ≤ S1x2048x2048.size a) (h : S1x64x2048.ShapeCasts S64x2048)
    (f : S1x2048x2048.Idx → Elt F .f32) :
    shapeCast S64x2048 (pM.view.readAt (Elt F) (Rect.unit (s := S1x2048x2048) off S1x64x2048.size inb).toLoadRect f) h
      = fun j => f (ix3 (0 : Fin 1) (⟨lo + (j 0).val, by have : (j 0).val < 64 := (j 0).isLt; omega⟩ : Fin 2048) (j 1)) := by
  subst ho
  funext j
  rw [eq_ix2 j]
  refine (shapeCast_1ab_ab_apply _ h (j 0) (j 1)).trans ?_
  refine congrArg f (funext fun a => Fin.ext ?_)
  match a with
  | ⟨0, _⟩ => show 0 + 1 * 0 = 0; rfl
  | ⟨1, _⟩ => show lo + 1 * (j 0).val = lo + (j 0).val; omega
  | ⟨2, _⟩ => show 0 + 1 * (j 1).val = (j 1).val; omega

/-- Half `g` of slot `s` of the ring's landing buffer holds `X`. -/
def Holds (s : Fin 3) (g : Fin 2) (X : Vec F S64x2048 .f32) (f : S3x128x2048.Idx → Elt F .f32) : Prop :=
  ∀ (i : Fin 64) (k : Fin 2048), f (ix3 s (⟨64 * g.val + i.val, by have := i.isLt; have := g.isLt; omega⟩ : Fin 128) k) = X (ix2 i k)

/-- It does when the block, read as a 64 × 2048 array, is `X`. -/
theorem holds_iff {s : Fin 3} {g : Fin 2} {off : Fin 3 → ℕ} (ho : off = ![s.val, 64 * g.val, 0])
    (inb : ∀ a, off a + S1x64x2048.size a ≤ S3x128x2048.size a) (h : S1x64x2048.ShapeCasts S64x2048)
    (X : Vec F S64x2048 .f32) (f : S3x128x2048.Idx → Elt F .f32) :
    Holds s g X f ↔ shapeCast S64x2048 (rM.view.readAt (Elt F) (Rect.unit (s := S3x128x2048) off S1x64x2048.size inb).toLoadRect f) h = X := by
  subst ho
  have key : ∀ (i : Fin 64) (k : Fin 2048),
      shapeCast S64x2048 (rM.view.readAt (Elt F) (Rect.unit (s := S3x128x2048) ![s.val, 64 * g.val, 0] S1x64x2048.size inb).toLoadRect f) h (ix2 i k)
        = f (ix3 s (⟨64 * g.val + i.val, by have := i.isLt; have := g.isLt; omega⟩ : Fin 128) k) := by
    intro i k
    refine (shapeCast_1ab_ab_apply _ h i k).trans ?_
    refine congrArg f (funext fun a => Fin.ext ?_)
    match a with
    | ⟨0, _⟩ => show s.val + 1 * 0 = s.val; omega
    | ⟨1, _⟩ => show 64 * g.val + 1 * i.val = 64 * g.val + i.val; omega
    | ⟨2, _⟩ => show 0 + 1 * k.val = k.val; omega
  constructor
  · intro H; funext j; rw [eq_ix2 j]; exact (key _ _).trans (H _ _)
  · intro H i k; rw [← key, H]

/-- What is written back through a view where it was read is what was there. -/
theorem write_read {sp : Space} {s : Shape} {e : EltTy} (v : View sig .tc sp s e) (fd f : v.ty.Contents (Elt F)) :
    ∀ i ∈ v.set, v.write (Elt F) fd (v.read (Elt F) f) Finset.univ i = f i := by
  intro i hi
  obtain ⟨x, -, rfl⟩ := Finset.mem_map.mp hi
  rw [View.write_emb_of_mem _ _ (Finset.mem_univ x), View.read_apply, cast_cast, cast_eq]

/-! ## Contents -/

variable (m : (ℓ : Loc nD τ sig) → Buf (Elt F) ℓ)

/-- Device `c`'s partial sums, as the pipeline stages them. -/
def P (c : Dev nD) : S1x2048x2048.Idx → Elt F .f32 := (win0_0.blk (0 : Fin 1)).view.read (Elt F) (m ((c : Thread nD τ).loc main_arg0))
/-- Device `c`'s scale, as the pipeline stages it. -/
def γ (c : Dev nD) : S2048.Idx → Elt F .f32 := (win0_1.blk (0 : Fin 1)).view.read (Elt F) (m ((c : Thread nD τ).loc main_arg2))
/-- Device `c`'s residual, which stays in place. -/
def R (c : Dev nD) : S2048x2048.Idx → Elt F .f32 := m ((c : Thread nD τ).loc main_arg1)

theorem partRow_le' (t : ℕ) (g : Fin 2) (c : Dev nD) : partRow t g c + 64 ≤ 2048 := by
  have h : c.val < 16 := c.isLt
  have := g.isLt
  unfold partRow quarter; omega

/-- The rows of device `c`'s partial sums that step `t` of the ring takes. -/
def partX (g : Fin 2) (t : ℕ) (c : Dev nD) : Vec F S64x2048 .f32 :=
  fun j => P m c (ix3 (0 : Fin 1) (⟨partRow t g c + (j 0).val, by have : (j 0).val < 64 := (j 0).isLt; have := partRow_le' t g c; omega⟩ : Fin 2048) (j 1))

/-- What device `c` holds of the running sum before step `t` of the ring. -/
def accX (g : Fin 2) : ℕ → Dev nD → Vec F S64x2048 .f32
  | 0, c => partX m g 0 c
  | t + 1, c => addf (accX g t (left c)) (partX m g (t + 1) c)

/-- The rows of the residual a device normalizes, as its local copy leaves them. -/
def chunk (c : Dev nD) : S128x2048.Idx → Elt F .f32 :=
  fun j => R m c (ix2 (⟨ownRow 0 c + (j 0).val, by have h : (j 0).val < 128 := (j 0).isLt; have := ownRow_le 1 c; unfold ownRow at *; simp only [Fin.val_zero, Fin.val_one] at *; omega⟩ : Fin 2048) (j 1))

/-- Half `g` of them. -/
def resX (g : Fin 2) (c : Dev nD) : Vec F S64x2048 .f32 :=
  fun j => chunk m c (ix2 (⟨64 * g.val + (j 0).val, by have : (j 0).val < 64 := (j 0).isLt; have := g.isLt; omega⟩ : Fin 128) (j 1))

/-- The normalization of a block: sum plus residual, over the root of its mean square, times the scale. -/
def nrm (a r : Vec F S64x2048 .f32) (w : Vec F S2048 .f32) : Vec F S64x2048 .f32 :=
  k0_pay4 (shapeCast S1x64x2048 a shapeCasts_S64x2048_S1x64x2048) r w

theorem pay4_eq (v : Vec F S1x64x2048 .f32) (r : Vec F S64x2048 .f32) (w : Vec F S2048 .f32) :
    k0_pay4 v r w = nrm (shapeCast S64x2048 v shapeCasts_S1x64x2048_S64x2048) r w := by
  unfold nrm
  rw [shapeCast_shapeCast]

/-- Half `g` of the block device `c` normalizes. -/
def nrmX (g : Fin 2) (c : Dev nD) : Vec F S64x2048 .f32 := nrm (accX m g 3 c) (resX m g c) (γ m c)

/-- The device that normalizes row `R` of the result. -/
def ownerOf (R : ℕ) (h : R < 2048) : Dev nD := ⟨4 * (R / 512) + (R / 128 + 3) % 4, by show _ < 16; omega⟩
/-- Which half of its block row `R` is in. -/
def halfOf (R : ℕ) : Fin 2 := ⟨R / 64 % 2, by omega⟩

/-- The whole result: each row from the device that normalizes it. -/
def outF : S2048x2048.Idx → Elt F .f32 := fun i =>
  nrmX m (halfOf (i 0).val) (ownerOf (i 0).val (i 0).isLt) (ix2 (⟨(i 0).val % 64, Nat.mod_lt _ (by decide)⟩ : Fin 64) (i 1))

/-- On the rows a device normalizes, the result is what it computes. -/
theorem outF_own (g : Fin 2) (c : Dev nD) (i : Fin 64) (k : Fin 2048) (h : ownRow g c + i.val < 2048) :
    outF m (ix2 (⟨ownRow g c + i.val, h⟩ : Fin 2048) k) = nrmX m g c (ix2 i k) := by
  have hc : c.val < 16 := c.isLt
  have hg := g.isLt
  have hi := i.isLt
  have e1 : halfOf (ownRow g c + i.val) = g := Fin.ext (by unfold halfOf ownRow quarter blk; simp only; omega)
  have e2 : ownerOf (ownRow g c + i.val) h = c := Fin.ext (by unfold ownerOf ownRow quarter blk; simp only; omega)
  have e3 : (ownRow g c + i.val) % 64 = i.val := by unfold ownRow quarter blk; omega
  show nrmX m (halfOf (ownRow g c + i.val)) (ownerOf (ownRow g c + i.val) h) (ix2 (⟨(ownRow g c + i.val) % 64, _⟩ : Fin 64) k) = _
  rw [e1, e2]
  exact congrArg (fun t => nrmX m g c (ix2 t k)) (Fin.ext e3)

/-- The store of a normalized half block leaves the result's own rows there. -/
theorem write_own {g : Fin 2} {c : Dev nD} {off : Fin 2 → ℕ} (ho : off = ![ownRow g c, 0])
    (inb : ∀ a, off a + S64x2048.size a ≤ S2048x2048.size a) (fd : S2048x2048.Idx → Elt F .f32) :
    ∀ i ∈ rows (ownRow g c) 64,
      (oM.access (Rect.unit (s := S2048x2048) off S64x2048.size inb)).write (Elt F) fd (nrmX m g c) Finset.univ i = outF m i := by
  intro i hi
  subst ho
  have hi' : i ∈ (oM.access (Rect.unit (s := S2048x2048) ![ownRow g c, 0] S64x2048.size inb)).set := by
    rw [show (oM.access (Rect.unit (s := S2048x2048) ![ownRow g c, 0] S64x2048.size inb)).set = _ from View.set_slice_whole _ _]
    rw [set_rows rfl rfl]; exact hi
  obtain ⟨x, -, rfl⟩ := Finset.mem_map.mp hi'
  rw [View.write_emb_of_mem _ _ (Finset.mem_univ x)]
  have hx : (x 0).val < 64 := (x 0).isLt
  have hl := ownRow_le g c
  refine Eq.trans ?_ ((outF_own m g c (x 0) (x 1) (by omega)).symm.trans (congrArg (outF m) (funext fun a => Fin.ext ?_)))
  · exact congrArg (nrmX m g c) (eq_ix2 x)
  · match a with
    | ⟨0, _⟩ => show ownRow g c + (x 0).val = ownRow g c + 1 * (x 0).val; omega
    | ⟨1, _⟩ => show (x 1).val = 0 + 1 * (x 1).val; omega

/-- A load of half `g` of the residual's local copy. -/
theorem read_chunk {g : Fin 2} (c : Dev nD) {off : Fin 2 → ℕ} (ho : off = ![64 * g.val, 0])
    (inb : ∀ a, off a + S64x2048.size a ≤ S128x2048.size a) :
    kM.view.readAt (Elt F) (Rect.unit (s := S128x2048) off S64x2048.size inb).toLoadRect (chunk m c) = resX m g c := by
  subst ho
  funext j
  refine congrArg (chunk m c) (funext fun a => Fin.ext ?_)
  match a with
  | ⟨0, _⟩ => show 64 * g.val + 1 * (j 0).val = 64 * g.val + (j 0).val; omega
  | ⟨1, _⟩ => show 0 + 1 * (j 1).val = (j 1).val; omega

/-- The residual's local copy reads the rows of the device's own block. -/
theorem read_resid (c : Dev nD) {off : Fin 2 → ℕ} (ho : off = ![ownRow 0 c, 0])
    (inb : ∀ a, off a + S128x2048.size a ≤ S2048x2048.size a) :
    (aM.slice (Rect.unit (s := S2048x2048) off S128x2048.size inb) (fun _ => rfl)).view.read (Elt F) (R m c) = chunk m c := by
  subst ho
  funext j
  refine congrArg (R m c) (funext fun a => Fin.ext ?_)
  match a with
  | ⟨0, _⟩ => show ownRow 0 c + 1 * (j 0).val = ownRow 0 c + (j 0).val; omega
  | ⟨1, _⟩ => show 0 + 1 * (j 1).val = (j 1).val; omega

end Cert.K7

end
-- ==== Proof.Schedule.lean ====
/-
# The schedule

One round on each cell. The barrier cell of a device has four duties, one per neighbour that signals it: the signal
hands over the landing regions of the transfers that device will make to the signaller. Each transfer's receive cell
has one duty, whose payload is the landing region with what has landed in it, and its send cell one duty, whose
payload is the source given back.
-/
module

public import proofs.«01_k».proof.Proof.Contents

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Cells and amounts -/

abbrev barCell (c : Dev nD) : GSem nD τ sig := ((c : Thread nD τ), .reg barSem)
abbrev roleCell (c : Dev nD) (r : Role) : GSem nD τ sig := ((c : Thread nD τ), .dma r.sem)
abbrev sndCell (c : Dev nD) (j : Tr) : GSem nD τ sig := ((c : Thread nD τ), .dma (sndSem j))
abbrev rcvCell (c : Dev nD) (j : Tr) : GSem nD τ sig := ((c : Thread nD τ), .dma (rcvSem j))
abbrev resCell (c : Dev nD) : GSem nD τ sig := ((c : Thread nD τ), .dma resSem)

/-- The credit of a 64-row transfer into the ring's landing buffer, of 64- and 32-row transfers into the result, and
    of the residual's copy. -/
abbrev amtRs : ℕ := ((rM.slice (Rect.unit (s := S3x128x2048) ![0, 0, 0] S1x64x2048.size inb_S3x128x2048_S1x64x2048_0_0_0) (fun _ => rfl)).squeeze S64x2048 squeezes_S1x64x2048_S64x2048).view.dmaCredit
abbrev amt64 : ℕ := (oM.slice (Rect.unit (s := S2048x2048) ![0, 0] S64x2048.size (by decide)) (fun _ => rfl)).view.dmaCredit
abbrev amt32 : ℕ := (oM.slice (Rect.unit (s := S2048x2048) ![0, 0] S32x2048.size (by decide)) (fun _ => rfl)).view.dmaCredit
abbrev amtRes : ℕ := kM.view.dmaCredit

/-- The credit of transfer `j`. -/
def amt : Tr → ℕ
  | .rs _ _ => amtRs
  | .ag _ _ => amt64
  | .y _ t => if t.val < 4 then amt64 else amt32
  | .x _ t => if t.val % 2 = 0 then amt64 else amt32

theorem amt_pos (j : Tr) : 0 < amt j := by
  have h1 : 0 < amtRs := View.dmaCredit_pos _ (by decide)
  have h2 : 0 < amt64 := View.dmaCredit_pos _ (by decide)
  have h3 : 0 < amt32 := View.dmaCredit_pos _ (by decide)
  cases j <;> simp only [amt] <;> (try split) <;> assumption

/-- The credit of a role's cell. -/
def Role.amt : Role → ℕ
  | .snd j | .rcv j => K7.amt j
  | .res => amtRes

theorem role_amt_pos (r : Role) : 0 < r.amt := by
  cases r
  · exact amt_pos _
  · exact amt_pos _
  · exact View.dmaCredit_pos _ (by decide)

/-! ## Payloads -/

variable (m : (ℓ : Loc nD τ sig) → Buf (Elt F) ℓ)

/-- The regions at some contents. -/
def oReg (c : Dev nD) (lo n : ℕ) (q : PosShare TreeShare) : sProp 𝕄 := ((c : Thread nD τ).loc cc0_stg2_0) ↦[rows lo n]{q} outF m
def oAny (c : Dev nD) (lo n : ℕ) : sProp 𝕄 := iprop(∃ f : Buf (Elt F) ((c : Thread nD τ).loc cc0_stg2_0), ((c : Thread nD τ).loc cc0_stg2_0) ↦[rows lo n]{fullShare} f)
def rReg (c : Dev nD) (s : Fin 3) (g : Fin 2) (X : Vec F S64x2048 .f32) : sProp 𝕄 :=
  iprop(∃ f : Buf (Elt F) ((c : Thread nD τ).loc cc0_scratch0), ⌜Holds s g X f⌝ ∗ ((c : Thread nD τ).loc cc0_scratch0) ↦[slab s g]{fullShare} f)
def rAny (c : Dev nD) (s : Fin 3) (g : Fin 2) : sProp 𝕄 := iprop(∃ f : Buf (Elt F) ((c : Thread nD τ).loc cc0_scratch0), ((c : Thread nD τ).loc cc0_scratch0) ↦[slab s g]{fullShare} f)
def pReg (c : Dev nD) (lo : ℕ) : sProp 𝕄 := ((c : Thread nD τ).loc cc0_stg0_0) ↦[prows lo]{fullShare.right} P m c
def kReg (c : Dev nD) : sProp 𝕄 := ((c : Thread nD τ).loc cc0_scratch1) ↦{fullShare} chunk m c
def aReg (c : Dev nD) : sProp 𝕄 := ((c : Thread nD τ).loc main_arg1) ↦[rows (ownRow 0 c) 128]{fullShare} R m c

instance oReg_storable (c : Dev nD) (lo n : ℕ) (q) : BI.Storable (upEmb : UEmb _ 𝕄) (oReg m c lo n q) := by unfold oReg; infer_instance
instance oAny_storable (c : Dev nD) (lo n : ℕ) : BI.Storable (upEmb : UEmb _ 𝕄) (oAny (F := F) c lo n) := by unfold oAny; infer_instance
instance rReg_storable (c : Dev nD) (s g X) : BI.Storable (upEmb : UEmb _ 𝕄) (rReg (F := F) c s g X) := by unfold rReg; infer_instance
instance rAny_storable (c : Dev nD) (s g) : BI.Storable (upEmb : UEmb _ 𝕄) (rAny (F := F) c s g) := by unfold rAny; infer_instance
instance pReg_storable (c : Dev nD) (lo : ℕ) : BI.Storable (upEmb : UEmb _ 𝕄) (pReg m c lo) := by unfold pReg; infer_instance
instance kReg_storable (c : Dev nD) : BI.Storable (upEmb : UEmb _ 𝕄) (kReg m c) := by unfold kReg; infer_instance
instance aReg_storable (c : Dev nD) : BI.Storable (upEmb : UEmb _ 𝕄) (aReg m c) := by unfold aReg; infer_instance

/-- Where transfer `j` of device `c` lands, before it does. -/
def land (c : Dev nD) (j : Tr) : sProp 𝕄 := match j with
  | .rs s g => rAny (dst (.rs s g) c) s g
  | j => oAny (dst j c) (rowOf j c) j.len

/-- The share of a device's own quarter that a transfer reads it at: three transfers read each block. -/
def shr : Tr → PosShare TreeShare
  | .rs _ _ => fullShare
  | .ag _ _ => fullShare.left
  | .y _ t => if t.val < 4 then fullShare.right.left else fullShare
  | .x _ t => if t.val % 2 = 0 then fullShare.right.right else fullShare

/-- What transfer `j` of device `c` reads. -/
def src (c : Dev nD) (j : Tr) : sProp 𝕄 := match j with
  | .rs ⟨0, _⟩ g => pReg m c (partRow 0 g c)
  | .rs ⟨1, _⟩ g => rReg c 0 g (accX m g 1 c)
  | .rs ⟨2, _⟩ g => rReg c 1 g (accX m g 2 c)
  | j => oReg m c (rowOf j c) j.len (shr j)

/-- What lands at device `c` by transfer `j`. -/
def landed (c : Dev nD) (j : Tr) : sProp 𝕄 := match j with
  | .rs s g => rReg c s g (accX m g s.val (left c))
  | j => oReg m c (rowOf j (frm j c)) j.len fullShare

/-- What the barrier signal number `k` hands device `c`: the landing regions of `c`'s transfers of that class. -/
def barPay (c : Dev nD) (k : Fin 4) : sProp 𝕄 := bigSep (Finset.univ.filter fun j : Tr => j.cls = k) fun j => land (F := F) c j

/-- The payload of a role's cell. -/
def rolePay (c : Dev nD) : Role → sProp 𝕄
  | .snd j => src m c j
  | .rcv j => landed m c j
  | .res => iprop(kReg m c ∗ aReg m c)

instance land_storable (c : Dev nD) (j : Tr) : BI.Storable (upEmb : UEmb _ 𝕄) (land (F := F) c j) := by
  unfold land; split <;> infer_instance
instance src_storable (c : Dev nD) (j : Tr) : BI.Storable (upEmb : UEmb _ 𝕄) (src m c j) := by
  unfold src; split <;> infer_instance
instance landed_storable (c : Dev nD) (j : Tr) : BI.Storable (upEmb : UEmb _ 𝕄) (landed m c j) := by
  unfold landed; split <;> infer_instance
instance barPay_storable (c : Dev nD) (k : Fin 4) : BI.Storable (upEmb : UEmb _ 𝕄) (barPay (F := F) c k) := by
  unfold barPay; infer_instance
instance rolePay_storable (c : Dev nD) (r : Role) : BI.Storable (upEmb : UEmb _ 𝕄) (rolePay m c r) := by
  cases r <;> unfold rolePay <;> infer_instance

/-! ## The schedule -/

/-- The duties of a cell by its semaphore, -/
def dutiesOf : SemLoc sig → Finset (Fin 4)
  | .reg _ => Finset.univ
  | .dma n => if (role n.val).isSome then {0} else ∅
/-- their amount, -/
def amountOf : SemLoc sig → ℕ
  | .reg _ => 1
  | .dma n => match role n.val with | some r => r.amt | none => 1
/-- and their payload. -/
def payOf (c : Dev nD) (d : Fin 4) : SemLoc sig → sProp 𝕄
  | .reg _ => barPay (F := F) c d
  | .dma n => match role n.val with | some r => rolePay m c r | none => iprop(emp)

theorem amountOf_pos (s : SemLoc sig) : 0 < amountOf s := by
  cases s with
  | reg s => exact Nat.one_pos
  | dma n =>
    unfold amountOf; dsimp only
    split
    · exact role_amt_pos _
    · exact Nat.one_pos

instance payOf_storable (c : Dev nD) (d : Fin 4) (s : SemLoc sig) : BI.Storable (upEmb : UEmb _ 𝕄) (payOf m c d s) := by
  cases s with
  | reg s => unfold payOf; infer_instance
  | dma n => unfold payOf; dsimp only; split <;> infer_instance

def Rd : Rounds.Schedule (GSem nD τ sig) (Fin 4) 𝕄 where
  duties g r := if r = 0 ∧ g.1.2 = .tc then dutiesOf g.2 else ∅
  unitless _ := False
  amount g _ _ := amountOf g.2
  payload g _ d := payOf m g.1.1 d g.2
  amount_pos g _ _ _ := amountOf_pos g.2

instance Rd_payload_storable (g : GSem nD τ sig) (r : ℕ) (d : Fin 4) : BI.Storable (upEmb : UEmb _ 𝕄) ((Rd m).payload g r d) :=
  payOf_storable m g.1.1 d g.2

section Facts
variable (c : Dev nD)

theorem duties_bar : (Rd m).duties (barCell c) 0 = Finset.univ := by
  unfold Rd; dsimp only
  rw [if_pos ⟨rfl, rfl⟩]; rfl
theorem duties_role (r : Role) : (Rd m).duties (roleCell c r) 0 = {0} := by
  unfold Rd; dsimp only
  rw [if_pos ⟨rfl, rfl⟩]
  unfold dutiesOf; dsimp only
  rw [role_sem]; rfl
theorem duties_later (g : GSem nD τ sig) : ∀ r, 1 ≤ r → (Rd m).duties g r = ∅ := by
  intro r hr
  unfold Rd; dsimp only
  rw [if_neg fun h => by omega]

theorem amount_bar (k : Fin 4) : (Rd m).amount (barCell c) 0 k = 1 := rfl
theorem amount_role (r : Role) (k : Fin 4) : (Rd m).amount (roleCell c r) 0 k = r.amt := by
  show amountOf (.dma r.sem) = _
  unfold amountOf; dsimp only; rw [role_sem]

theorem expect_bar : (Rd m).expect (barCell c) 0 = 4 := by
  unfold Schedule.expect Schedule.amountOf; rw [duties_bar]; rfl
theorem expect_role (r : Role) : (Rd m).expect (roleCell c r) 0 = r.amt := by
  unfold Schedule.expect Schedule.amountOf; rw [duties_role, Finset.sum_singleton, amount_role]

theorem payload_bar (k : Fin 4) : (Rd m).payload (barCell c) 0 k = barPay c k := rfl
theorem payload_role (r : Role) (k : Fin 4) : (Rd m).payload (roleCell c r) 0 k = rolePay m c r := by
  show payOf m c k (.dma r.sem) = _
  unfold payOf; dsimp only; rw [role_sem]

theorem barPay_all : bigSep Finset.univ (fun k => barPay (F := F) c k) = bigSep Finset.univ fun j : Tr => land (F := F) c j := by
  unfold barPay
  rw [← bigSep_biUnion_eq Finset.univ (fun k => Finset.univ.filter fun j : Tr => j.cls = k) _ (by
    intro k _ k' _ h
    exact Finset.disjoint_filter.mpr fun j _ e e' => h (e.symm.trans e'))]
  congr 1

theorem rest_bar : bigSep ((Rd m).duties (barCell c) 0 \ ∅) (fun u => (Rd m).payload (barCell c) 0 u) = bigSep Finset.univ fun j : Tr => land (F := F) c j := by
  rw [Finset.sdiff_empty, duties_bar]
  exact barPay_all c
theorem rest_role (r : Role) : bigSep ((Rd m).duties (roleCell c r) 0 \ ∅) (fun u => (Rd m).payload (roleCell c r) 0 u) = rolePay m c r := by
  rw [Finset.sdiff_empty, duties_role, bigSep_singleton, payload_role]

end Facts

end Cert.K7

end
-- ==== Proof.Program.lean ====
/-
# The program's order

What a device holds as a finite set of named resources, and the operations of the body in their order, each with the
resources it takes and those it leaves. Which resources are held before each operation is computed once, as a bit mask,
and checked once for the whole program.
-/
module

public import proofs.«01_k».proof.Proof.Tables

@[expose] public section

noncomputable section

namespace Cert.K7

open Cert.KernelIdeal Cert.KernelIdeal.Gen
open Idealize.ShloMosaic Idealize.ShloMosaic.TcCoe

/-! ## Resources -/

/-- The resources of a device that do not belong to a transfer. -/
inductive Misc where
  /-- the right to make barrier signal `k`, with what it hands over -/
  | mine (k : Fin 4)
  /-- the right to wait at the barrier; its semaphore drained -/
  | bar | barv
  /-- the residual's copy: not started, in flight, arrived -/
  | res0 | res1 | res2
  /-- the partial sums and the scale, to read -/
  | part | gam
  /-- half `g` of the device's own rows: not yet written; written -/
  | own (g : Fin 2) | fin (g : Fin 2)
  /-- the full sum of half `g` -/
  | acc (g : Fin 2)
deriving DecidableEq, Fintype

/-- The resources of a transfer: its landing region on the peer (`land`), its tokens (`tok`), the position on its send
    cell (`sa`), the credit there once it is issued (`sc`), that cell drained (`sv`); the position and credit on its
    receive cell (`rc`), that cell drained (`rv`); its source (`src`); what of its landing no later transfer reads
    (`rest`); its landing whole (`got`). -/
inductive Fam where
  | land | tok | sa | sc | sv | rc | rv | src | rest | got
deriving DecidableEq

instance : Fintype Fam :=
  ⟨{.land, .tok, .sa, .sc, .sv, .rc, .rv, .src, .rest, .got}, fun k => by cases k <;> decide⟩

/-- A resource. -/
inductive Res where
  | m (x : Misc)
  | t (k : Fam) (j : Tr)
deriving DecidableEq

instance : Fintype Res := Fintype.ofEquiv (Misc ⊕ (Fam × Tr))
  ⟨fun | .inl x => .m x | .inr p => .t p.1 p.2, fun | .m x => .inl x | .t k j => .inr (k, j),
    fun x => by rcases x with x | ⟨k, j⟩ <;> rfl, fun x => by cases x <;> rfl⟩

def Misc.code : Misc → ℕ
  | .mine k => k.val
  | .bar => 4 | .barv => 5 | .res0 => 6 | .res1 => 7 | .res2 => 8 | .part => 9 | .gam => 10
  | .own g => 11 + g.val
  | .fin g => 13 + g.val
  | .acc g => 15 + g.val

def Fam.code : Fam → ℕ
  | .land => 1 | .tok => 2 | .sa => 3 | .sc => 4 | .sv => 5 | .rc => 6 | .rv => 7 | .src => 8 | .rest => 9 | .got => 10

/-- The bit of a resource. -/
def Res.code : Res → ℕ
  | .m x => x.code
  | .t k j => 64 * k.code + j.pos

theorem misc_code_lt (x : Misc) : x.code < 64 := by revert x; decide +kernel
theorem misc_code_inj : ∀ x x' : Misc, x.code = x'.code → x = x' := by decide +kernel
theorem fam_code_pos (k : Fam) : 0 < k.code := by revert k; decide +kernel
theorem fam_code_inj : ∀ k k' : Fam, k.code = k'.code → k = k' := by decide +kernel

theorem code_inj {r r' : Res} (h : r.code = r'.code) : r = r' := by
  cases r with
  | m x =>
    cases r' with
    | m x' => exact congrArg _ (misc_code_inj _ _ h)
    | t k j => simp only [Res.code] at h; have := misc_code_lt x; have := fam_code_pos k; omega
  | t k j =>
    cases r' with
    | m x => simp only [Res.code] at h; have := misc_code_lt x; have := fam_code_pos k; omega
    | t k' j' =>
      simp only [Res.code] at h
      have h1 := pos_lt j
      have h2 := pos_lt j'
      rw [fam_code_inj k k' (by omega), pos_inj j j' (by omega)]

/-- Whether resource `r` is held in state `S`. -/
def has (r : Res) (S : ℕ) : Bool := S.testBit r.code
/-- State `S` with resource `r` added, or taken. -/
def flip (r : Res) (S : ℕ) : ℕ := S ^^^ 2 ^ r.code

theorem has_flip_self (r : Res) (S : ℕ) : has r (flip r S) = !has r S := by
  unfold has flip; rw [Nat.testBit_xor, Nat.testBit_two_pow_self, Bool.xor_true]
theorem has_flip_ne {r r' : Res} (h : r ≠ r') (S : ℕ) : has r (flip r' S) = has r S := by
  unfold has flip
  rw [Nat.testBit_xor, Nat.testBit_two_pow_of_ne fun e => h (code_inj e).symm, Bool.xor_false]

/-- Taking (or adding) the resources of a list one after another, -/
def flips : List Res → ℕ → ℕ
  | [], S => S
  | r :: l, S => flips l (flip r S)
/-- and that each was there to take. -/
def okTake : List Res → ℕ → Bool
  | [], _ => true
  | r :: l, S => has r S && okTake l (flip r S)

/-! ## Transfers -/

/-- The transfers that read what transfer `j` of the previous device landed. -/
def kids : Tr → List Tr
  | .rs _ _ => []
  | .ag g s => if s.val = 0 then [.ag g 1, .y g 1, .x g 2] else if s.val = 1 then [.ag g 2, .y g 2, .x g 4] else [.y g 3, .x g 6]
  | .y g t => if t.val < 4 then [.x g (Fin.ofNat 8 (2 * t.val + 1))] else []
  | .x g t => if t.val % 2 = 0 then [.y g (Fin.ofNat 8 (4 + t.val / 2))] else []

/-- Whether a transfer belongs to the reduce-scatter. -/
def Tr.isRs : Tr → Bool
  | .rs _ _ => true
  | _ => false

/-- The transfers, in the order a device makes them. -/
def rsTrs (g : Fin 2) : List Tr := [.rs 0 g, .rs 1 g, .rs 2 g]
def outTrs : List Tr :=
  (List.finRange 2).flatMap fun g => ((List.finRange 3).map fun s => Tr.ag g s) ++ ((List.finRange 8).map fun t => Tr.y g t) ++ ((List.finRange 8).map fun t => Tr.x g t)
def allTrs : List Tr := rsTrs 0 ++ rsTrs 1 ++ outTrs

theorem allTrs_nodup : allTrs.Nodup := by decide +kernel
theorem allTrs_all : ∀ j : Tr, j ∈ allTrs := by decide +kernel
theorem outTrs_nodup : outTrs.Nodup := by decide +kernel
theorem mem_outTrs : ∀ j : Tr, j ∈ outTrs ↔ j.isRs = false := by decide +kernel

/-! ## Operations -/

/-- An operation of the body; the last two only regroup what is held. -/
inductive Op where
  | sig (k : Fin 4) | bar | copy | resw
  | send (j : Tr) | recv (j : Tr) | sent (j : Tr)
  | add (s : Fin 3) (g : Fin 2) | norm (g : Fin 2)
  | join (j : Tr) | joinOwn (g : Fin 2)
deriving DecidableEq

/-- The transfers that read the device's own rows of half `g`. -/
def ownKids (g : Fin 2) : List Tr := [.ag g 0, .y g 0, .x g 0]

/-- What an operation takes, -/
def Op.need : Op → List Res
  | .sig k => [.m (.mine k)]
  | .bar => [.m .bar]
  | .copy => [.m .res0]
  | .resw => [.m .res1]
  | .send j => [.t .src j, .t .land j, .t .tok j]
  | .recv j => [.t .rc j]
  | .sent j => [.t .sa j, .t .sc j]
  | .add s g => [.m .part, .t .rest (.rs s g)]
  | .norm g => [.m .gam, .m .res2, .m (.acc g), .m (.own g)]
  | .join j => .t .rest j :: (kids j).map (.t .src)
  | .joinOwn g => (ownKids g).map (.t .src)
/-- and what it leaves. -/
def Op.give : Op → List Res
  | .sig _ => []
  | .bar => .m .barv :: allTrs.map (.t .land)
  | .copy => [.m .res1]
  | .resw => [.m .res2]
  | .send j => [.t .sc j]
  | .recv j => .t .rv j :: .t .rest j :: (kids j).map (.t .src)
  | .sent j => [.t .sv j, .t .src j]
  | .add s g => [.m .part, if h : s.val < 2 then .t .src (.rs (Fin.ofNat 3 (s.val + 1)) g) else .m (.acc g)]
  | .norm g => .m .gam :: .m .res2 :: .m (.acc g) :: (ownKids g).map (.t .src)
  | .join j => [.t .got j]
  | .joinOwn g => [.m (.fin g)]

/-- The ring on half `g`, -/
def chain (g : Fin 2) : List Op :=
  [.recv (.rs 0 g), .add 0 g, .send (.rs 1 g), .recv (.rs 1 g), .add 1 g, .send (.rs 2 g), .recv (.rs 2 g), .add 2 g]
/-- the normalization and the first distribution of half `g`, -/
def dist (g : Fin 2) : List Op := [.norm g, .send (.ag g 0), .send (.y g 0), .send (.x g 0)]
/-- the steps of the all-gather ring on half `g`, with what each block that arrives is sent on to, -/
def hop (g : Fin 2) (s : Fin 3) : List Op :=
  [.recv (.ag g s)] ++ (if s.val < 2 then [.send (.ag g (Fin.ofNat 3 (s.val + 1)))] else [])
    ++ [.send (.y g (Fin.ofNat 8 (s.val + 1))), .send (.x g (Fin.ofNat 8 (2 * (s.val + 1)))),
      .recv (.y g (Fin.ofNat 8 s.val)), .send (.x g (Fin.ofNat 8 (2 * s.val + 1)))]
/-- the last exchanges across `x` and `y`, -/
def fwd (g : Fin 2) (k : Fin 4) : List Op := [.recv (.x g (Fin.ofNat 8 (2 * k.val))), .send (.y g (Fin.ofNat 8 (4 + k.val)))]
/-- the waits for what was sent, -/
def sents : List Tr :=
  (rsTrs 0 ++ [.y 0 0, .x 0 0]) ++ (rsTrs 1 ++ [.y 1 0, .x 1 0])
    ++ ((List.finRange 3).flatMap fun s => (List.finRange 2).flatMap fun g =>
        [Tr.ag g s, .y g (Fin.ofNat 8 (s.val + 1)), .x g (Fin.ofNat 8 (2 * (s.val + 1))), .x g (Fin.ofNat 8 (2 * s.val + 1))])
    ++ [.x 0 7, .x 1 7] ++ ((List.finRange 4).flatMap fun k => [Tr.y 0 (Fin.ofNat 8 (4 + k.val)), .y 1 (Fin.ofNat 8 (4 + k.val))])
/-- and the last arrivals. -/
def lasts : List Tr :=
  (List.finRange 4).flatMap fun k => (List.finRange 2).flatMap fun g => [Tr.x g (Fin.ofNat 8 (2 * k.val + 1)), .y g (Fin.ofNat 8 (4 + k.val))]

/-- The body. -/
def prog : List Op :=
  [.sig 0, .sig 1, .sig 2, .sig 3, .bar, .copy, .send (.rs 0 0), .send (.rs 0 1)]
    ++ chain 0 ++ .resw :: dist 0 ++ chain 1 ++ dist 1
    ++ ((List.finRange 3).flatMap fun s => hop 0 s ++ hop 1 s)
    ++ [.recv (.y 0 3), .send (.x 0 7), .recv (.y 1 3), .send (.x 1 7)]
    ++ ((List.finRange 4).flatMap fun k => fwd 0 k ++ fwd 1 k)
    ++ sents.map .sent ++ lasts.map .recv
    ++ [.joinOwn 0, .joinOwn 1] ++ outTrs.map .join

/-! ## The states -/

/-- What is held at the start. -/
def startMisc : List Misc := [.mine 0, .mine 1, .mine 2, .mine 3, .bar, .res0, .part, .gam, .own 0, .own 1]
def startRes : List Res := startMisc.map .m ++ allTrs.map (.t .tok) ++ allTrs.map (.t .sa) ++ allTrs.map (.t .rc) ++ [.t .src (.rs 0 0), .t .src (.rs 0 1)]

/-- What is held at the end. -/
def endMisc : List Misc := [.barv, .res2, .part, .gam, .fin 0, .fin 1, .acc 0, .acc 1]
def endRes : List Res :=
  endMisc.map .m ++ allTrs.map (.t .sv) ++ allTrs.map (.t .rv) ++ (rsTrs 0 ++ rsTrs 1).map (.t .src) ++ outTrs.map (.t .got)

/-- The state after an operation. -/
def Op.step (o : Op) (S : ℕ) : ℕ := flips o.give (flips o.need S)

/-- The state before operation `i`, -/
def mask (i : ℕ) : ℕ := (prog.take i).foldl (fun S o => o.step S) (flips startRes 0)
/-- the barrier signals and the transfers an operation makes, -/
def Op.sigs : Op → ℕ
  | .sig _ => 1
  | _ => 0
def Op.sends : Op → ℕ
  | .send _ => 1
  | _ => 0
/-- and how many have been made before operation `i`. -/
def nsig (i : ℕ) : ℕ := (prog.take i).foldl (fun b o => b + o.sigs) 0
def nsend (i : ℕ) : ℕ := (prog.take i).foldl (fun n o => n + o.sends) 0

/-- What must hold where operation `o` stands: signals and transfers come in their order, and what is waited for is
    not owed after it. -/
def Op.order (o : Op) (b n : ℕ) : Bool := match o with
  | .sig k => b == k.val
  | .bar => b == 4
  | .send j => n == j.pos
  | .recv j => b == 4 && decide (j.pos < n)
  | _ => true

/-- One operation from state `(S, b, n)`: the checks, -/
def okAt (S b n : ℕ) (o : Op) : Bool :=
  okTake o.need S && okTake o.give (o.step S) && (flips o.give (o.step S) == flips o.need S) && o.order b n
/-- and along a list of operations. -/
def okAll : List Op → ℕ → ℕ → ℕ → Bool
  | [], _, _, _ => true
  | o :: l, S, b, n => okAt S b n o && okAll l (o.step S) (b + o.sigs) (n + o.sends)

/-- The checks at one place of a list that passes them. -/
theorem okAll_at : ∀ (l : List Op) (S b n i : ℕ) (o : Op), okAll l S b n = true → l[i]? = some o →
    okAt ((l.take i).foldl (fun S o => o.step S) S) ((l.take i).foldl (fun b o => b + o.sigs) b) ((l.take i).foldl (fun n o => n + o.sends) n) o = true
  | [], _, _, _, i, o, _, h => by simp at h
  | a :: l, S, b, n, 0, o, hk, h => by
    rw [show a = o from Option.some.inj h] at hk
    unfold okAll at hk
    exact (Bool.and_eq_true _ _ ▸ hk).1
  | a :: l, S, b, n, i + 1, o, hk, h => by
    unfold okAll at hk
    exact okAll_at l _ _ _ i o (Bool.and_eq_true _ _ ▸ hk).2 h

theorem prog_len : prog.length = 187 := by decide +kernel
theorem prog_ok : okAll prog (flips startRes 0) 0 0 = true := by decide +kernel

/-- The checks at operation `i`. -/
theorem ok_at {i : ℕ} {o : Op} (h : prog[i]? = some o) : okAt (mask i) (nsig i) (nsend i) o = true := okAll_at prog _ _ _ i o prog_ok h

theorem take_next {i : ℕ} {o : Op} (h : prog[i]? = some o) : prog.take (i + 1) = prog.take i ++ [o] := by
  rw [List.take_add_one, h]; rfl
theorem mask_next {i : ℕ} {o : Op} (h : prog[i]? = some o) : mask (i + 1) = o.step (mask i) := by
  unfold mask; rw [take_next h, List.foldl_append]; rfl
theorem nsig_next {i : ℕ} {o : Op} (h : prog[i]? = some o) : nsig (i + 1) = nsig i + o.sigs := by
  unfold nsig; rw [take_next h, List.foldl_append]; rfl
theorem nsend_next {i : ℕ} {o : Op} (h : prog[i]? = some o) : nsend (i + 1) = nsend i + o.sends := by
  unfold nsend; rw [take_next h, List.foldl_append]; rfl

theorem start_ok : okTake startRes (flips startRes 0) = true ∧ flips startRes (flips startRes 0) = 0 := by decide +kernel
theorem end_ok : okTake endRes (mask 187) = true ∧ flips endRes (mask 187) = 0 := by decide +kernel

end Cert.K7

end
-- ==== Proof.Words.lean ====
/-
# The program's words

The device numbers and row offsets the body computes from its own device number, each equal to what the tables say.
-/
module

public import proofs.«01_k».proof.Proof.Tables

@[expose] public section

noncomputable section

namespace Cert.K7

open Cert.KernelIdeal Cert.KernelIdeal.Gen
open Idealize.ShloMosaic Idealize.ShloMosaic.TcCoe

/-- The device each transfer names, in the order of the transfers, -/
def devTab : List (Dev nD → ℕ) :=
  [k0_dev5, k0_dev6, k0_dev7, k0_dev8, k0_dev9, k0_dev10, k0_dev11, k0_dev12, k0_dev13, k0_dev14, k0_dev15, k0_dev16,
   k0_dev17, k0_dev18, k0_dev19, k0_dev20, k0_dev21, k0_dev22, k0_dev23, k0_dev24, k0_dev25, k0_dev26, k0_dev27, k0_dev28,
   k0_dev29, k0_dev30, k0_dev31, k0_dev32, k0_dev33, k0_dev34, k0_dev35, k0_dev36, k0_dev37, k0_dev38, k0_dev39, k0_dev40,
   k0_dev41, k0_dev42, k0_dev43, k0_dev44, k0_dev45, k0_dev46, k0_dev47, k0_dev48]
def devAt (j : Tr) (c : Dev nD) : ℕ := devTab.getD j.pos (fun c => c.val) c
theorem devAt_eq : ∀ (j : Tr) (c : Dev nD), devAt j c = (dst j c).val := by decide +kernel

/-- and each barrier signal. -/
def sigAt (k : Fin 4) (c : Dev nD) : ℕ := match k with
  | 0 => k0_dev1 c
  | 1 => k0_dev2 c
  | 2 => k0_dev3 c
  | 3 => k0_dev4 c
theorem sigAt_eq : ∀ (k : Fin 4) (c : Dev nD), sigAt k c = (sgn k c).val := by decide +kernel

/-- The word of half `g`'s first row. -/
abbrev gw (g : Fin 2) : BitVec 32 := BitVec.ofNat 32 (64 * g.val)

/-- The rows of the result each transfer moves. -/
def offAt (j : Tr) (c : Dev nD) : Fin 2 → ℕ := match j with
  | .rs _ _ => ![0, 0]
  | .ag g s => if s.val = 0 then k0_off5 c (gw g) else k0_off6 c (BitVec.ofNat 32 (s.val - 1)) (gw g)
  | .y g t => if t.val = 0 then k0_off5 c (gw g) else if t.val < 4 then k0_off6 c (BitVec.ofNat 32 (t.val - 1)) (gw g)
      else k0_off9 c (BitVec.ofNat 32 (t.val - 4)) (gw g)
  | .x g t => if t.val = 0 then k0_off5 c (gw g) else if t.val = 7 then k0_off8 c (gw g)
      else if t.val % 2 = 0 then k0_off6 c (BitVec.ofNat 32 (t.val / 2 - 1)) (gw g) else k0_off7 c (BitVec.ofNat 32 (t.val / 2)) (gw g)
theorem offAt_eq : ∀ (j : Tr) (c : Dev nD), offAt j c = ![rowOf j c, 0] := by decide +kernel

/-- The rows of the residual copied, -/
theorem off1_eq : ∀ c : Dev nD, k0_off1 c = ![ownRow 0 c, 0] := by decide +kernel
/-- of the partial sums sent first, -/
theorem off2_eq : ∀ (g : Fin 2) (c : Dev nD), k0_off2 c (gw g) = ![0, partRow 0 g c, 0] := by decide +kernel
/-- of those added at step `s`, -/
theorem off3_eq : ∀ (s : Fin 3) (g : Fin 2) (c : Dev nD), k0_off3 c (BitVec.ofNat 32 (3 - s.val)) (gw g) = ![0, partRow (s.val + 1) g c, 0] := by
  decide +kernel
/-- and the device's own rows of the result. -/
theorem off4_eq : ∀ (g : Fin 2) (c : Dev nD), k0_off4 c (gw g) = ![ownRow g c, 0] := by decide +kernel

end Cert.K7

end
-- ==== Proof.State.lean ====
/-
# What a device holds between operations

The assertion of each resource, the state before operation `i` of the body, and the rule by which an operation leads from
one state to the next.
-/
module

public import proofs.«01_k».proof.Proof.Schedule
public import proofs.«01_k».proof.Proof.Program
public import proofs.«01_k».proof.Proof.Words
public import Idealize.ShloMosaic.Lib.Pipeline.BigSepL

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The resources -/

/-- What no later transfer reads of what transfer `j` landed at device `c`. -/
def rest (c : Dev nD) (j : Tr) : sProp 𝕄 := match j with
  | .rs s g => rReg c s g (accX m g s.val (left c))
  | .ag g s => if s.val < 2 then iprop(emp) else oReg m c (rowOf (.ag g s) (left c)) 64 fullShare.left
  | .y g t => if t.val < 4 then oReg m c (rowOf (.y g t) (acrossY c)) 32 fullShare else oReg m c (rowOf (.y g t) (acrossY c)) 32 fullShare
  | .x g t => if t.val % 2 = 0 then oReg m c (rowOf (.x g t) (acrossX c) + 32) 32 fullShare else oReg m c (rowOf (.x g t) (acrossX c)) 32 fullShare

/-- The resources of no transfer, -/
def AM (c : Dev nD) : Misc → sProp 𝕄
  | .mine k => iprop(dutyTok ER (barCell (sgn k c)) 0 k ∗ barPay (sgn k c) k)
  | .bar => iprop(cred (tallyAt (barCell c) () 4) ∗ atPos ER (barCell c) 0 ∅ 0)
  | .barv => semVal (barCell c) 0
  | .res0 => iprop(dutyTok ER (resCell c) 0 0 ∗ atPos ER (resCell c) 0 ∅ 0 ∗ aReg m c
      ∗ ∃ f : Buf (Elt F) ((c : Thread nD τ).loc cc0_scratch1), ((c : Thread nD τ).loc cc0_scratch1) ↦{fullShare} f)
  | .res1 => iprop(cred (tallyAt (resCell c) () amtRes) ∗ atPos ER (resCell c) 0 ∅ 0)
  | .res2 => iprop(semVal (resCell c) 0 ∗ kReg m c ∗ aReg m c)
  | .part => ((c : Thread nD τ).loc cc0_stg0_0) ↦{fullShare.left} P m c
  | .gam => ((c : Thread nD τ).loc cc0_stg1_0) ↦{fullShare} γ m c
  | .own g => oAny c (ownRow g c) 64
  | .fin g => oReg m c (ownRow g c) 64 fullShare
  | .acc g => rReg c 2 g (accX m g 3 c)

/-- those of a transfer, -/
def AT (c : Dev nD) (k : Fam) (j : Tr) : sProp 𝕄 := match k with
  | .land => land c j
  | .tok => iprop(dutyTok ER (sndCell c j) 0 0 ∗ dutyTok ER (rcvCell (dst j c) j) 0 0)
  | .sa => atPos ER (sndCell c j) 0 ∅ 0
  | .sc => cred (tallyAt (sndCell c j) () (amt j))
  | .sv => semVal (sndCell c j) 0
  | .rc => iprop(cred (tallyAt (rcvCell c j) () (amt j)) ∗ atPos ER (rcvCell c j) 0 ∅ 0)
  | .rv => semVal (rcvCell c j) 0
  | .src => src m c j
  | .rest => rest m c j
  | .got => landed m c j

/-- and all of them. -/
def A (c : Dev nD) : Res → sProp 𝕄
  | .m x => AM m c x
  | .t k j => AT m c k j

/-- What is held in state `S`. -/
def bs (c : Dev nD) (S : ℕ) : sProp 𝕄 := bigSep (Finset.univ.filter fun r : Res => has r S = true) (A m c)

theorem bs_take {c : Dev nD} {r : Res} {S : ℕ} (h : has r S = true) : bs m c S = iprop(A m c r ∗ bs m c (flip r S)) := by
  classical
  unfold bs
  rw [bigSep_erase (i := r) (Finset.mem_filter.mpr ⟨Finset.mem_univ _, h⟩)]
  congr 2
  ext r'
  rw [Finset.mem_erase, Finset.mem_filter, Finset.mem_filter]
  by_cases e : r' = r
  · subst e; rw [has_flip_self, h]; simp
  · rw [has_flip_ne e]; simp [e]

theorem sep_assoc_eq (P Q R : sProp 𝕄) : iprop((P ∗ Q) ∗ R) = iprop(P ∗ Q ∗ R) := by
  have h1 : iprop((P ∗ Q) ∗ R) ⊢ iprop(P ∗ Q ∗ R) := Laws.sep_assoc.1
  have h2 : iprop(P ∗ Q ∗ R) ⊢ iprop((P ∗ Q) ∗ R) := Laws.sep_assoc.2
  exact equiv_iff.mp ⟨h1, h2⟩

theorem bs_takeL {c : Dev nD} : ∀ (l : List Res) (S : ℕ), okTake l S = true → bs m c S = iprop(bigSepL l (A m c) ∗ bs m c (flips l S))
  | [], S, _ => (equiv_iff.mp emp_sep).symm
  | r :: l, S, h => by
    unfold okTake at h
    obtain ⟨h1, h2⟩ := Bool.and_eq_true _ _ ▸ h
    rw [bs_take m h1, bs_takeL l _ h2, bigSepL_cons]
    exact (sep_assoc_eq _ _ _).symm

theorem bs_zero (c : Dev nD) : bs m c 0 = iprop(emp) := by
  unfold bs
  rw [Finset.filter_false_of_mem fun r _ h => by unfold has at h; rw [Nat.zero_testBit] at h; cases h]
  rfl

/-! ## What is owed -/

/-- What device `c` owes once it has made its first `b` signals and its first `n` transfers. -/
def debt (c : Dev nD) (b n : ℕ) : CellTallies nD τ sig Unit :=
  (∑ j ∈ Finset.univ.filter fun j : Tr => n ≤ j.pos, tallyAt (rcvCell (dst j c) j) () (amt j))
    + ∑ k ∈ Finset.univ.filter fun k : Fin 4 => b ≤ k.val, tallyAt (barCell (sgn k c)) () 1

theorem debt_send (c : Dev nD) (b : ℕ) (j : Tr) :
    debt c b j.pos = debt c b (j.pos + 1) + tallyAt (rcvCell (dst j c) j) () (amt j) := by
  classical
  unfold debt
  have e : (Finset.univ.filter fun j' : Tr => j.pos ≤ j'.pos) = insert j (Finset.univ.filter fun j' : Tr => j.pos + 1 ≤ j'.pos) := by
    ext j'
    rw [Finset.mem_insert, Finset.mem_filter, Finset.mem_filter]
    constructor
    · rintro ⟨h, h'⟩
      rcases Nat.lt_or_ge j.pos j'.pos with h1 | h1
      · exact .inr ⟨h, h1⟩
      · exact .inl (pos_inj _ _ (by omega))
    · rintro (rfl | ⟨h, h'⟩)
      · exact ⟨Finset.mem_univ _, Nat.le_refl _⟩
      · exact ⟨h, by omega⟩
  rw [e, Finset.sum_insert fun h => absurd (Finset.mem_filter.mp h).2 (by omega), add_assoc, add_comm]

theorem debt_sig (c : Dev nD) (n : ℕ) (k : Fin 4) : debt c k.val n = debt c (k.val + 1) n + tallyAt (barCell (sgn k c)) () 1 := by
  classical
  unfold debt
  have e : (Finset.univ.filter fun k' : Fin 4 => k.val ≤ k'.val) = insert k (Finset.univ.filter fun k' : Fin 4 => k.val + 1 ≤ k'.val) := by
    ext k'
    rw [Finset.mem_insert, Finset.mem_filter, Finset.mem_filter]
    constructor
    · rintro ⟨h, h'⟩
      rcases Nat.lt_or_ge k.val k'.val with h1 | h1
      · exact .inr ⟨h, h1⟩
      · exact .inl (Fin.ext (by omega))
    · rintro (rfl | ⟨h, h'⟩)
      · exact ⟨Finset.mem_univ _, Nat.le_refl _⟩
      · exact ⟨h, by omega⟩
  rw [e, Finset.sum_insert fun h => absurd (Finset.mem_filter.mp h).2 (by omega), add_comm (tallyAt _ _ _), ← add_assoc]

/-- What is owed at the end: nothing. -/
theorem debt_end (c : Dev nD) : debt c 4 44 = 0 := by
  unfold debt
  rw [Finset.filter_false_of_mem fun j _ h => absurd (pos_lt j) (by omega), Finset.filter_false_of_mem fun k _ h => absurd k.isLt (by omega),
    Finset.sum_empty, Finset.sum_empty, add_zero]

/-- A cell something is owed to is a receive cell of a transfer not yet made or a barrier cell not yet signalled. -/
theorem debt_pos {c : Dev nD} {b n : ℕ} {g : GSem nD τ sig} {u : Unit} (h : 0 < debt c b n g u) :
    (∃ j : Tr, n ≤ j.pos ∧ g = rcvCell (dst j c) j) ∨ ∃ k : Fin 4, b ≤ k.val ∧ g = barCell (sgn k c) := by
  classical
  unfold debt at h
  rw [Pi.add_apply, Finsupp.add_apply, Finset.sum_apply, Finset.sum_apply, Finsupp.finset_sum_apply, Finsupp.finset_sum_apply] at h
  rcases Nat.add_pos_iff_pos_or_pos.mp h with h | h
  · obtain ⟨j, hj, h1⟩ := Finset.exists_ne_zero_of_sum_ne_zero (Nat.pos_iff_ne_zero.mp h)
    rw [tallyAt_apply] at h1
    by_cases e : g = rcvCell (dst j c) j ∧ u = ()
    · exact .inl ⟨j, (Finset.mem_filter.mp hj).2, e.1⟩
    · rw [if_neg e] at h1; exact absurd rfl h1
  · obtain ⟨k, hk, h1⟩ := Finset.exists_ne_zero_of_sum_ne_zero (Nat.pos_iff_ne_zero.mp h)
    rw [tallyAt_apply] at h1
    by_cases e : g = barCell (sgn k c) ∧ u = ()
    · exact .inr ⟨k, (Finset.mem_filter.mp hk).2, e.1⟩
    · rw [if_neg e] at h1; exact absurd rfl h1

/-! ## Levels -/

def L (g : GSem nD τ sig) : Finset Unit := if g.1.2 = .tc then {()} else ∅
/-- The level of a semaphore: the barrier's is one, a receive's two more than its transfer's place in the program. -/
def slv : SemLoc sig → ℕ
  | .reg _ => 1
  | .dma n => match role n.val with
    | some (.rcv j) => 2 + j.pos
    | _ => 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl
theorem slv_rcv (j : Tr) : slv (.dma (rcvSem j)) = 2 + j.pos := by
  unfold slv; dsimp only; rw [show role (rcvSem j).val = _ from role_sem (.rcv j)]
theorem slv_snd (j : Tr) : slv (.dma (sndSem j)) = 0 := by
  unfold slv; dsimp only; rw [show role (sndSem j).val = _ from role_sem (.snd j)]
theorem slv_res : slv (.dma resSem) = 0 := by
  unfold slv; dsimp only; rw [show role resSem.val = _ from role_sem .res]

/-- A semaphore below every cell something is owed to may be waited on. -/
theorem mayWait (c : Dev nD) (sm : SemLoc sig) (b n : ℕ) (h1 : slv sm < 2 + n) (h2 : slv sm = 0 ∨ b = 4) :
    (levAts L lv : sProp 𝕄) ⊢ MayWait (c : Thread nD τ) sm () (debt c b n) :=
  MayOwe.of_cut (L := L) (lev := lv) (slv sm) (fun p hp => by rw [Finset.mem_singleton.mp hp, L_tc]; exact Finset.mem_singleton_self _)
    (fun g u hg => by rcases debt_pos hg with ⟨j, -, rfl⟩ | ⟨k, -, rfl⟩ <;> exact Finset.mem_singleton_self _)
    (fun p hp => by rw [Finset.mem_singleton.mp hp]; exact Nat.le_refl _)
    (fun g u hg => by
      rcases debt_pos hg with ⟨j, hj, rfl⟩ | ⟨k, hk, rfl⟩
      · show slv sm < slv (.dma (rcvSem j)); rw [slv_rcv]; omega
      · show slv sm < 1
        have := k.isLt
        omega)

/-! ## The invariants -/

/-- The cell of a device's role; `none` is the barrier. -/
def cellAt (p : Dev nD × Option Role) : GSem nD τ sig := match p.2 with
  | none => barCell p.1
  | some r => roleCell p.1 r

/-- Every cell of every device has its invariant and stands at its only round. -/
def recs (K : Dev nD × Option Role → ℕ) : sProp 𝕄 :=
  bigSep Finset.univ fun p : Dev nD × Option Role => iprop(cellInv ER (Rd m) (K p) (cellAt p) ∗ reached ER (cellAt p) 0)

instance recs_persistent (K) : BI.Persistent (recs m K) := by unfold recs; infer_instance

variable (K : Dev nD × Option Role → ℕ)

theorem recs_role (c : Dev nD) (r : Role) : recs m K ⊢ iprop(cellInv ER (Rd m) (K (c, some r)) (roleCell c r) ∗ reached ER (roleCell c r) 0) :=
  bigSep_elim (Finset.mem_univ ((c, some r) : Dev nD × Option Role))
theorem recs_bar (c : Dev nD) : recs m K ⊢ iprop(cellInv ER (Rd m) (K (c, none)) (barCell c) ∗ reached ER (barCell c) 0) :=
  bigSep_elim (Finset.mem_univ ((c, none) : Dev nD × Option Role))

/-! ## The states -/

/-- What device `c` owes, -/
def Ow (c : Dev nD) (b n : ℕ) : sProp 𝕄 := iprop(∃ W : Waits sig Unit, owes (c : Thread nD τ) (debt c b n) W)
/-- what never changes, -/
def Pe : sProp 𝕄 := iprop(recs m K ∗ levAts L lv)
instance Pe_persistent : BI.Persistent (Pe m K) := by unfold Pe; infer_instance
/-- and all it holds before operation `i`. -/
def At (c : Dev nD) (i : ℕ) : sProp 𝕄 := iprop(Pe m K ∗ Ow c (nsig i) (nsend i) ∗ bs m c (mask i))

/-- An operation takes what it needs and, once it has left what it leaves, the next state is reached. -/
theorem at_open {c : Dev nD} {i : ℕ} {o : Op} (ho : prog[i]? = some o) :
    At m K c i ⊢ iprop(Pe m K ∗ Ow c (nsig i) (nsend i) ∗ bigSepL o.need (A m c)
      ∗ ((Ow c (nsig i + o.sigs) (nsend i + o.sends) ∗ bigSepL o.give (A m c)) -∗ At m K c (i + 1))) := by
  have hk := ok_at ho
  unfold okAt at hk
  simp only [Bool.and_eq_true, beq_iff_eq] at hk
  obtain ⟨⟨⟨h1, h2⟩, h3⟩, -⟩ := hk
  unfold At
  rw [bs_takeL m o.need _ h1, nsig_next ho, nsend_next ho, mask_next ho, bs_takeL m o.give _ h2, h3]
  iintro ⟨#Hp, Ho, Hn, Hb⟩
  isplitr; · iexact Hp
  isplitl [Ho]; · iexact Ho
  isplitl [Hn]; · iexact Hn
  iintro ⟨Ho, Hg⟩
  isplitr; · iexact Hp
  isplitl [Ho]; · iexact Ho
  isplitl [Hg] <;> iassumption

theorem order_at {i : ℕ} {o : Op} (ho : prog[i]? = some o) : o.order (nsig i) (nsend i) = true := by
  have hk := ok_at ho
  unfold okAt at hk
  exact (Bool.and_eq_true _ _ ▸ hk).2

end Cert.K7

end
-- ==== Proof.Moves.lean ====
/-
# What the transfers move

For each transfer, that its source is held where the program reads it and that what its landing leaves is what the
schedule delivers.
-/
module

public import proofs.«01_k».proof.Proof.State
public import proofs.«01_k».proof.Proof.Words

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The elements under a memref, at some share and contents. -/
abbrev under (c : Dev nD) {sp : Space} {s : Shape} {e : EltTy} (M : Memref sig .tc sp s e) (q : PosShare TreeShare)
    (f : Buf (Elt F) (M.view.loc (c : Thread nD τ))) : sProp 𝕄 := M.view.loc (c : Thread nD τ) ↦[M.view.set]{q} f

/-- Transfer `j` of device `c` may read from `sM` and land at `dM`. -/
structure Moves (c : Dev nD) (j : Tr) {sp sp' : Space} {s : Shape} {e : EltTy} (sM : Memref sig .tc sp s e) (dM : Memref sig .tc sp' s e) : Prop where
  from_src : src m c j ⊢ iprop(∃ (q : PosShare TreeShare) (fs : Buf (Elt F) (sM.view.loc (c : Thread nD τ))),
    ⌜(under c sM q fs ⊢ src m c j) ∧ ∀ fd : Buf (Elt F) (dM.view.loc (dst j c : Thread nD τ)),
      under (dst j c) dM fullShare (dM.view.write (Elt F) fd (sM.view.read (Elt F) fs) Finset.univ) ⊢ landed m (dst j c) j⌝ ∗ under c sM q fs)
  to_land : land (F := F) c j ⊢ iprop(∃ fd : Buf (Elt F) (dM.view.loc (dst j c : Thread nD τ)), under (dst j c) dM fullShare fd)

/-! ## Transfers within the result -/

theorem src_out (c : Dev nD) {j : Tr} (h : j.isRs = false) : src m c j = oReg m c (rowOf j c) j.len (shr j) := by
  cases j with
  | rs s g => cases h
  | _ => rfl
theorem land_out (c : Dev nD) {j : Tr} (h : j.isRs = false) : land (F := F) c j = oAny (dst j c) (rowOf j c) j.len := by
  cases j with
  | rs s g => cases h
  | _ => rfl
theorem landed_out (c : Dev nD) {j : Tr} (h : j.isRs = false) : landed m c j = oReg m c (rowOf j (frm j c)) j.len fullShare := by
  cases j with
  | rs s g => cases h
  | _ => rfl

theorem moves_out {c : Dev nD} {j : Tr} (h : j.isRs = false) {off size : Fin 2 → ℕ} (ho : off = offAt j c) (hs : size = ![j.len, 2048])
    (inb : ∀ a, off a + size a ≤ S2048x2048.size a) (h1) :
    Moves m c j (oM.slice (Rect.unit (s := S2048x2048) off size inb) h1) (oM.slice (Rect.unit (s := S2048x2048) off size inb) h1) := by
  have e : (oM.slice (Rect.unit (s := S2048x2048) off size inb) h1).view.set = rows (rowOf j c) j.len :=
    (View.set_slice_whole _ _).trans (set_rows (ho.trans (offAt_eq j c)) hs inb)
  have e2 : ∀ (d : Dev nD) (q : PosShare TreeShare) (f : S2048x2048.Idx → Elt F .f32),
      under d (oM.slice (Rect.unit (s := S2048x2048) off size inb) h1) q f = ((d : Thread nD τ).loc cc0_stg2_0 ↦[rows (rowOf j c) j.len]{q} f : sProp 𝕄) := by
    intro d q f
    show ((d : Thread nD τ).loc cc0_stg2_0 ↦[(oM.slice (Rect.unit (s := S2048x2048) off size inb) h1).view.set]{q} f : sProp 𝕄) = _
    rw [e]
  constructor
  · rw [src_out m c h]
    unfold oReg
    iintro H
    iexists (shr j)
    iexists (outF m)
    rw [e2]
    isplitr
    · ipureintro
      refine ⟨Entails.of_eq rfl, fun fd => ?_⟩
      rw [landed_out m _ h, frm_dst]
      refine Entails.of_eq ((pointsTo_congr (write_read (F := F) (oM.slice (Rect.unit (s := S2048x2048) off size inb) h1).view fd (outF m))).trans (e2 _ _ _))
    · iexact H
  · rw [land_out c h]
    unfold oAny
    iintro ⟨%f, H⟩
    iexists f
    rw [e2]; iexact H

/-! ## Transfers of the ring -/

/-- What is written over a half slot is what it then holds. -/
theorem holds_write {s : Fin 3} {g : Fin 2} {off : Fin 3 → ℕ} (ho : off = ![s.val, 64 * g.val, 0])
    (inb : ∀ a, off a + S1x64x2048.size a ≤ S3x128x2048.size a) (h1) (h2) (fd : S3x128x2048.Idx → Elt F .f32) (w : Vec F S64x2048 .f32) :
    Holds s g w (((rM.slice (Rect.unit (s := S3x128x2048) off S1x64x2048.size inb) h1).squeeze S64x2048 h2).view.write (Elt F) fd w Finset.univ) :=
  (holds_iff ho inb shapeCasts_S1x64x2048_S64x2048 _ _).mpr (View.read_write_univ (v := ((rM.slice (Rect.unit (s := S3x128x2048) off S1x64x2048.size inb) h1).squeeze S64x2048 h2).view) fd w)

theorem set_half {s : Fin 3} {g : Fin 2} {off : Fin 3 → ℕ} (ho : off = ![s.val, 64 * g.val, 0])
    (inb : ∀ a, off a + S1x64x2048.size a ≤ S3x128x2048.size a) (h1) (h2) :
    ((rM.slice (Rect.unit (s := S3x128x2048) off S1x64x2048.size inb) h1).squeeze S64x2048 h2).view.set = slab s g :=
  (View.set_reshape _ _).trans ((View.set_slice_whole _ _).trans (set_slab ho inb))

theorem set_part {lo : ℕ} {off : Fin 3 → ℕ} (ho : off = ![0, lo, 0])
    (inb : ∀ a, off a + S1x64x2048.size a ≤ S1x2048x2048.size a) (h1) (h2) :
    ((pM.slice (Rect.unit (s := S1x2048x2048) off S1x64x2048.size inb) h1).squeeze S64x2048 h2).view.set = prows lo :=
  (View.set_reshape _ _).trans ((View.set_slice_whole _ _).trans (set_prows ho inb))

theorem left_dst (s : Fin 3) (g : Fin 2) (c : Dev nD) : left (dst (.rs s g) c) = c := left_right c

/-- The landing of a ring transfer, whatever it is read from. -/
theorem land_rs {c : Dev nD} {s : Fin 3} {g : Fin 2} {off : Fin 3 → ℕ} (ho : off = ![s.val, 64 * g.val, 0])
    (inb : ∀ a, off a + S1x64x2048.size a ≤ S3x128x2048.size a) (h1) (h2) :
    land (F := F) c (.rs s g) ⊢ iprop(∃ fd, under (dst (.rs s g) c) ((rM.slice (Rect.unit (s := S3x128x2048) off S1x64x2048.size inb) h1).squeeze S64x2048 h2) fullShare fd) := by
  show rAny (F := F) (dst (.rs s g) c) s g ⊢ _
  unfold rAny
  iintro ⟨%f, H⟩
  iexists f
  show _ ⊢ ((dst (.rs s g) c : Thread nD τ).loc cc0_scratch0 ↦[((rM.slice (Rect.unit (s := S3x128x2048) off S1x64x2048.size inb) h1).squeeze S64x2048 h2).view.set]{fullShare} f)
  rw [set_half ho inb h1 h2]
theorem landed_rs {c : Dev nD} {s : Fin 3} {g : Fin 2} {off : Fin 3 → ℕ} (ho : off = ![s.val, 64 * g.val, 0])
    (inb : ∀ a, off a + S1x64x2048.size a ≤ S3x128x2048.size a) (h1) (h2) (fd : S3x128x2048.Idx → Elt F .f32) (w : Vec F S64x2048 .f32) (hw : w = accX m g s.val c) :
    under (dst (.rs s g) c) ((rM.slice (Rect.unit (s := S3x128x2048) off S1x64x2048.size inb) h1).squeeze S64x2048 h2) fullShare
      (((rM.slice (Rect.unit (s := S3x128x2048) off S1x64x2048.size inb) h1).squeeze S64x2048 h2).view.write (Elt F) fd w Finset.univ) ⊢ landed m (dst (.rs s g) c) (.rs s g) := by
  show _ ⊢ rReg (F := F) (dst (.rs s g) c) s g (accX m g s.val (left (dst (.rs s g) c)))
  rw [left_dst, ← hw]
  unfold rReg
  iintro H
  iexists _
  isplitr
  · ipureintro; exact holds_write ho inb h1 h2 fd w
  · rw [← set_half ho inb h1 h2]; iexact H

/-- The first step reads the partial sums; -/
theorem moves_rs0 {c : Dev nD} {g : Fin 2} {off off' : Fin 3 → ℕ} (ho : off = k0_off2 c (gw g)) (ho' : off' = ![0, 64 * g.val, 0])
    (inb : ∀ a, off a + S1x64x2048.size a ≤ S1x2048x2048.size a) (inb' : ∀ a, off' a + S1x64x2048.size a ≤ S3x128x2048.size a) (h1) (h2) (h1') (h2') :
    Moves m c (.rs 0 g) ((pM.slice (Rect.unit (s := S1x2048x2048) off S1x64x2048.size inb) h1).squeeze S64x2048 h2)
      ((rM.slice (Rect.unit (s := S3x128x2048) off' S1x64x2048.size inb') h1').squeeze S64x2048 h2') := by
  have hoff := ho.trans (off2_eq g c)
  have e := set_part hoff inb h1 h2
  constructor
  · show pReg m c (partRow 0 g c) ⊢ _
    unfold pReg
    iintro H
    iexists fullShare.right
    iexists (P m c)
    isplitr
    · ipureintro
      constructor
      · show ((c : Thread nD τ).loc cc0_stg0_0 ↦[((pM.slice (Rect.unit (s := S1x2048x2048) off S1x64x2048.size inb) h1).squeeze S64x2048 h2).view.set]{fullShare.right} P m c) ⊢ _
        rw [e]; exact Entails.of_eq rfl
      · intro fd
        exact landed_rs m ho' inb' h1' h2' fd _ (read_prows hoff (partRow_le' 0 g c) inb shapeCasts_S1x64x2048_S64x2048 (P m c))
    · show _ ⊢ ((c : Thread nD τ).loc cc0_stg0_0 ↦[((pM.slice (Rect.unit (s := S1x2048x2048) off S1x64x2048.size inb) h1).squeeze S64x2048 h2).view.set]{fullShare.right} P m c)
      rw [e]
  · exact land_rs ho' inb' h1' h2'

/-- the later ones the sums the step before left in the landing buffer. -/
theorem moves_rs {c : Dev nD} {s t : Fin 3} {g : Fin 2} (hsrc : src m c (.rs t g) = rReg c s g (accX m g t.val c)) {off off' : Fin 3 → ℕ}
    (ho : off = ![s.val, 64 * g.val, 0]) (ho' : off' = ![t.val, 64 * g.val, 0])
    (inb : ∀ a, off a + S1x64x2048.size a ≤ S3x128x2048.size a) (inb' : ∀ a, off' a + S1x64x2048.size a ≤ S3x128x2048.size a) (h1) (h2) (h1') (h2') :
    Moves m c (.rs t g) ((rM.slice (Rect.unit (s := S3x128x2048) off S1x64x2048.size inb) h1).squeeze S64x2048 h2)
      ((rM.slice (Rect.unit (s := S3x128x2048) off' S1x64x2048.size inb') h1').squeeze S64x2048 h2') := by
  have e := set_half ho inb h1 h2
  constructor
  · rw [hsrc]
    unfold rReg
    iintro ⟨%f, %hf, H⟩
    iexists fullShare
    iexists f
    isplitr
    · ipureintro
      constructor
      · show ((c : Thread nD τ).loc cc0_scratch0 ↦[((rM.slice (Rect.unit (s := S3x128x2048) off S1x64x2048.size inb) h1).squeeze S64x2048 h2).view.set]{fullShare} f) ⊢ _
        rw [e]
        iintro H
        iexists f
        isplitr
        · ipureintro; exact hf
        · iexact H
      · intro fd
        exact landed_rs m ho' inb' h1' h2' fd _ ((holds_iff ho inb shapeCasts_S1x64x2048_S64x2048 _ _).mp hf)
    · show _ ⊢ ((c : Thread nD τ).loc cc0_scratch0 ↦[((rM.slice (Rect.unit (s := S3x128x2048) off S1x64x2048.size inb) h1).squeeze S64x2048 h2).view.set]{fullShare} f)
      rw [e]
  · exact land_rs ho' inb' h1' h2'

end Cert.K7

end
-- ==== Proof.Pieces.lean ====
/-
# How what has landed is cut up

Each block that lands is read by up to three later transfers. This file cuts a landing region into the shares those
transfers read and the part none of them does, and joins them again.
-/
module

public import proofs.«01_k».proof.Proof.State

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Rows cut in two, -/
theorem oReg_halves (c : Dev nD) (lo : ℕ) (q : PosShare TreeShare) :
    oReg m c lo 64 q = iprop(oReg m c lo 32 q ∗ oReg m c (lo + 32) 32 q) := by
  unfold oReg
  have e : rows lo 64 = rows lo 32 ∪ rows (lo + 32) 32 := by
    ext i; rw [Finset.mem_union, mem_rows, mem_rows, mem_rows]; omega
  rw [e]
  have hd : Disjoint (rows lo 32) (rows (lo + 32) 32) := Finset.disjoint_left.mpr fun i h h' => by rw [mem_rows] at h h'; omega
  exact equiv_iff.mp ⟨(pointsTo_union hd).1, (pointsTo_union hd).2⟩
/-- a share cut in two, -/
theorem oReg_shares (c : Dev nD) (lo n : ℕ) (q : PosShare TreeShare) :
    oReg m c lo n q = iprop(oReg m c lo n q.left ∗ oReg m c lo n q.right) := by
  unfold oReg
  exact equiv_iff.mp ⟨(pointsTo_share (PosShare.mem_left_op_right q)).1, (pointsTo_share (PosShare.mem_left_op_right q)).2⟩
/-- and the whole of it cut in three. -/
theorem oReg_three (c : Dev nD) (lo n : ℕ) :
    oReg m c lo n fullShare = iprop(oReg m c lo n fullShare.left ∗ oReg m c lo n fullShare.right.left ∗ oReg m c lo n fullShare.right.right) := by
  rw [oReg_shares m c lo n fullShare, oReg_shares m c lo n fullShare.right]

/-- Where in the landing of a transfer its readers start. -/
def Tr.cut : Tr → ℕ
  | .y _ t => if t.val < 4 then 32 else 0
  | _ => 0

theorem row_kid : ∀ (j : Tr) (c : Dev nD), ∀ j' ∈ kids j, rowOf j' c = rowOf j (frm j c) + j.cut := by decide +kernel

theorem emp_sep_eq (P : sProp 𝕄) : iprop(emp ∗ P) = P := equiv_iff.mp emp_sep
theorem sep_emp_eq (P : sProp 𝕄) : iprop(P ∗ emp) = P := equiv_iff.mp sep_emp

theorem sep_comm_eq (P Q : sProp 𝕄) : iprop(P ∗ Q) = iprop(Q ∗ P) := by
  have h1 : iprop(P ∗ Q) ⊢ iprop(Q ∗ P) := by iintro ⟨H1, H2⟩; isplitl [H2] <;> iassumption
  have h2 : iprop(Q ∗ P) ⊢ iprop(P ∗ Q) := by iintro ⟨H1, H2⟩; isplitl [H2] <;> iassumption
  exact equiv_iff.mp ⟨h1, h2⟩

theorem odd_slot : ∀ t : Fin 8, (Fin.ofNat 8 (2 * t.val + 1)).val % 2 = 1 := by decide
theorem late_slot : ∀ t : Fin 8, 4 ≤ (Fin.ofNat 8 (4 + t.val / 2)).val := by decide

/-- What has landed is what no transfer reads of it and what each of its readers does. -/
theorem landed_split (c : Dev nD) (j : Tr) : landed m c j = iprop(rest m c j ∗ bigSepL (kids j) (src m c)) := by
  have hk := row_kid j c
  revert hk
  match j with
  | .rs s g => intro _; exact (sep_emp_eq _).symm
  | .ag g ⟨0, _⟩ =>
    intro hk
    show oReg m c (rowOf (.ag g 0) (left c)) 64 fullShare = iprop(emp ∗ oReg m c (rowOf (.ag g 1) c) 64 fullShare.left
      ∗ oReg m c (rowOf (.y g 1) c) 64 fullShare.right.left ∗ oReg m c (rowOf (.x g 2) c) 64 fullShare.right.right)
    rw [hk (.ag g 1) (by simp [kids]), hk (.y g 1) (by simp [kids]), hk (.x g 2) (by simp [kids]), emp_sep_eq]
    exact oReg_three m c _ _
  | .ag g ⟨1, _⟩ =>
    intro hk
    show oReg m c (rowOf (.ag g 1) (left c)) 64 fullShare = iprop(emp ∗ oReg m c (rowOf (.ag g 2) c) 64 fullShare.left
      ∗ oReg m c (rowOf (.y g 2) c) 64 fullShare.right.left ∗ oReg m c (rowOf (.x g 4) c) 64 fullShare.right.right)
    rw [hk (.ag g 2) (by simp [kids]), hk (.y g 2) (by simp [kids]), hk (.x g 4) (by simp [kids]), emp_sep_eq]
    exact oReg_three m c _ _
  | .ag g ⟨2, _⟩ =>
    intro hk
    show oReg m c (rowOf (.ag g 2) (left c)) 64 fullShare = iprop(oReg m c (rowOf (.ag g 2) (left c)) 64 fullShare.left
      ∗ oReg m c (rowOf (.y g 3) c) 64 fullShare.right.left ∗ oReg m c (rowOf (.x g 6) c) 64 fullShare.right.right)
    rw [hk (.y g 3) (by simp [kids]), hk (.x g 6) (by simp [kids])]
    exact oReg_three m c _ _
  | .y g t =>
    intro hk
    by_cases h : t.val < 4
    · have e := hk (.x g (Fin.ofNat 8 (2 * t.val + 1))) (by simp only [kids, if_pos h]; exact List.mem_singleton_self _)
      unfold landed rest kids Tr.len
      simp only [if_pos h, bigSepL_singleton]
      unfold src Tr.len shr
      simp only [odd_slot t, Nat.one_ne_zero, if_false, e, Tr.cut, if_pos h]
      exact oReg_halves m c _ _
    · unfold landed rest kids Tr.len
      simp only [if_neg h, bigSepL_nil]
      exact (sep_emp_eq _).symm
  | .x g t =>
    intro hk
    by_cases h : t.val % 2 = 0
    · have e := hk (.y g (Fin.ofNat 8 (4 + t.val / 2))) (by simp only [kids, if_pos h]; exact List.mem_singleton_self _)
      have h4 : ¬ (Fin.ofNat 8 (4 + t.val / 2)).val < 4 := Nat.not_lt.mpr (late_slot t)
      unfold landed rest kids Tr.len
      simp only [if_pos h, bigSepL_singleton]
      unfold src Tr.len shr
      simp only [if_neg h4, e, Tr.cut, Nat.add_zero]
      rw [oReg_halves m c _ _]
      exact sep_comm_eq _ _
    · unfold landed rest kids Tr.len
      simp only [if_neg h, bigSepL_nil]
      exact (sep_emp_eq _).symm

/-- A device's own rows are what its first transfers of them read. -/
theorem own_split (c : Dev nD) (g : Fin 2) : oReg m c (ownRow g c) 64 fullShare = bigSepL (ownKids g) (src m c) := by
  show _ = iprop(oReg m c (rowOf (.ag g 0) c) 64 fullShare.left ∗ oReg m c (rowOf (.y g 0) c) 64 fullShare.right.left
      ∗ oReg m c (rowOf (.x g 0) c) 64 fullShare.right.right)
  exact oReg_three m c _ _

end Cert.K7

end
-- ==== Proof.Steps.lean ====
/-
# The operations' rules

For each operation of the body, the rule that leads from the state before it to the state after it.
-/
module

public import proofs.«01_k».proof.Proof.Moves
public import proofs.«01_k».proof.Proof.Pieces

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Role → ℕ)

/-- A program of device `c`'s core run to postcondition `Q`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} {c : Dev nD} {i : ℕ} {k : Unit → Prog (TpuEff nD τ sig (Elt F) Λ₀ .tc) α}

/-- A postcondition. -/
abbrev Post (F : FTy → Type) (α : Type) : Type _ := α → sProp (MT nD τ sig Unit (Elt F) ℕ UU ℕ)

variable {Q : Post F α}

/-! ## Signals and waits -/

/-- What a transfer of the result's rows credits. -/
theorem credit_eq {j : Tr} (hj : j.isRs = false) {off size : Fin 2 → ℕ} (hsz : size = ![j.len, 2048])
    {inb : ∀ a, off a + size a ≤ S2048x2048.size a} {w} :
    (oM.slice (Rect.unit (s := S2048x2048) off size inb) w).view.dmaCredit = amt j := by
  subst hsz
  have h64 : ∀ (off : Fin 2 → ℕ) (inb) (w), (oM.slice (Rect.unit (s := S2048x2048) off ![64, 2048] inb) w).view.dmaCredit = amt64 := fun _ _ _ => rfl
  have h32 : ∀ (off : Fin 2 → ℕ) (inb) (w), (oM.slice (Rect.unit (s := S2048x2048) off ![32, 2048] inb) w).view.dmaCredit = amt32 := fun _ _ _ => rfl
  have key : ∀ n : ℕ, (n = 64 ∧ amt j = amt64) ∨ (n = 32 ∧ amt j = amt32) → ∀ (inb : ∀ a, off a + (![n, 2048] : Fin 2 → ℕ) a ≤ S2048x2048.size a) (w),
      (oM.slice (Rect.unit (s := S2048x2048) off ![n, 2048] inb) w).view.dmaCredit = amt j := by
    rintro n (⟨rfl, e⟩ | ⟨rfl, e⟩) inb w
    · rw [e]; exact h64 off inb w
    · rw [e]; exact h32 off inb w
  refine key j.len ?_ inb w
  cases j with
  | rs s g => exact absurd hj (by simp [Tr.isRs])
  | ag g s => exact .inl ⟨rfl, rfl⟩
  | y g t =>
    by_cases h : t.val < 4
    · exact .inl ⟨by simp only [Tr.len, if_pos h], by simp only [amt, if_pos h]⟩
    · exact .inr ⟨by simp only [Tr.len, if_neg h], by simp only [amt, if_neg h]⟩
  | x g t =>
    by_cases h : t.val % 2 = 0
    · exact .inl ⟨by simp only [Tr.len, if_pos h], by simp only [amt, if_pos h]⟩
    · exact .inr ⟨by simp only [Tr.len, if_neg h], by simp only [amt, if_neg h]⟩

/-- A barrier signal. -/
theorem at_sig {s : Fin 4} {n : Dev nD} (h : At m K c (i + 1) ⊢ wpc c (k ⟨⟩) Q) (ho : prog[i]? = some (.sig s) := by rfl) (hn : n.val = sigAt s c := by rfl) :
    At m K c i ⊢ wpc c (.op (.semSignal ((n, .tc) : Thread nD τ) barSem (1#32).toInt) k) Q := by
  obtain rfl : n = sgn s c := Fin.ext (hn.trans (sigAt_eq s c))
  have hb : nsig i = s.val := by have := order_at ho; exact beq_iff_eq.mp this
  have ha := at_open m K (c := c) ho
  simp only [Op.need, Op.give, bigSepL_nil, bigSepL_cons', bigSepL_map, A, AM, AT] at ha
  refine ha.trans ?_
  unfold Pe Ow
  iintro ⟨⟨#Hr, #Hl⟩, ⟨%W, HO⟩, ⟨⟨Ht, Hp⟩, -⟩, Hk⟩
  rw [hb, debt_sig]
  ihave #HI := (recs_bar m K (sgn s c)) $$ Hr
  icases HI with ⟨#HI, #HR⟩
  iapply (Rounds.wp_signal 𝒱₀ ER (Rd m) (c : Thread nD τ) none (dst := (sgn s c : Thread nD τ)) (κ := K (sgn s c, none)) (d := s)
      (by rw [duties_bar]; exact Finset.mem_univ _) ((amount_bar m (sgn s c) s).trans (by decide)) () (debt c (s.val + 1) (nsend i)) rfl)
    $$ [HO Ht Hp]
  · isplitr; · iexact HI
    isplitl [HO]; · iexact HO
    isplitl [Ht]; · iexact Ht
    isplitl [Hp]; · rw [payload_bar]; iexact Hp
    iexact HR
  iintro HO
  iapply h
  iapply Hk
  isplitl [HO]
  · iexists W; iexact HO
  · iempintro

/-- The barrier's wait: every landing region on the neighbours comes with it. -/
theorem at_bar (h : At m K c (i + 1) ⊢ wpc c (k ⟨⟩) Q) (ho : prog[i]? = some .bar := by rfl) :
    At m K c i ⊢ wpc c (.op (.semWait barSem (4#32).toInt) k) Q := by
  have hb : nsig i = 4 := by have := order_at ho; exact beq_iff_eq.mp this
  have ha := at_open m K (c := c) ho
  simp only [Op.need, Op.give, bigSepL_nil, bigSepL_cons', bigSepL_map, A, AM, AT] at ha
  refine ha.trans ?_
  unfold Pe Ow
  iintro ⟨⟨#Hr, #Hl⟩, ⟨%W, HO⟩, ⟨⟨Hc, Ha⟩, -⟩, Hk⟩
  rw [hb]
  ihave #HI := (recs_bar m K c) $$ Hr
  icases HI with ⟨#HI, #HR⟩
  iapply (Rounds.wp_wait_rest_token 𝒱₀ ER (Rd m) (c : Thread nD τ) none (κ := K (c, none))
      (wpE_semWait_eq 𝒱₀ (c : Thread nD τ) none Set.univ) (Set.mem_univ _) () (O := debt c 4 (nsend i)) (W := W) (R := 0) (m := 0) (T := ∅)
      (by rw [expect_bar]; decide)) $$ [Hc HO Ha]
  · isplitr; · iexact HI
    isplitl [Hc]; · iexact Hc
    isplitl [HO]; · iexact HO
    isplitr; · iapply (mayWait c (.reg barSem) 4 (nsend i) (by show 1 < _; omega) (.inr rfl)); iexact Hl
    iexact Ha
  iintro ⟨HO, Ha, -, Hpay⟩
  ihave Hpay := (Entails.of_eq ((rest_bar m c).trans (bigSep_univ_eq_bigSepL allTrs (by ext j; simp [allTrs_all j]) allTrs_nodup _))) $$ Hpay
  imod (Rounds.cell_close ER (Rd m) (Set.mem_univ (K (c, none))) (fun h => h) (R := 0 + 1) (duties_later m (barCell c))) $$ [Ha] with Hz
  · isplitr; · iexact HI
    iexact Ha
  iapply h
  iapply Hk
  isplitl [HO]
  · iexists _; iexact HO
  · isplitl [Hz]
    · iexact Hz
    · iexact Hpay

/-- A wait on the cell of a role: its payload, and the cell drained. -/
theorem wp_wait_role (r : Role) {b n : ℕ} (h1 : slv (.dma r.sem) < 2 + n) (h2 : slv (.dma r.sem) = 0 ∨ b = 4)
    {sem : DmaSem sig} (hs : sem = r.sem) {sp sp' : Space} {s s' : Shape} {e e' : EltTy}
    {sm : Memref sig .tc sp' s' e'} {dm : Memref sig .tc sp s e}
    {w1 : sm.view.WordExact} {w2 : dm.view.WordExact} (hd : dm.view.dmaCredit = r.amt) :
    iprop(Pe m K ∗ Ow c b n ∗ cred (tallyAt (roleCell c r) () r.amt) ∗ atPos ER (roleCell c r) 0 ∅ 0)
      ⊢ iprop(((Ow c b n ∗ semVal (roleCell c r) 0 ∗ rolePay m c r) -∗ wpc c (k ⟨⟩) Q)
        -∗ wpc c (.op (.waitDma2 sem sm dm w1 w2) k) Q) := by
  subst hs
  unfold Pe Ow
  iintro ⟨⟨#Hr, #Hl⟩, ⟨%W, HO⟩, Hc, Ha⟩ Hk
  ihave #HI := (recs_role m K c r) $$ Hr
  icases HI with ⟨#HI, #HR⟩
  iapply (Rounds.wp_wait_rest_token 𝒱₀ ER (Rd m) (c : Thread nD τ) none (κ := K (c, some r)) (k' := r.amt)
      (fun Kt => (wpE_waitDma2_eq 𝒱₀ (c : Thread nD τ) none Set.univ Kt).trans (congrArg (fun N => waitSpec (c : Thread nD τ) Set.univ (.dma r.sem) N Kt) hd)) (Set.mem_univ _) () (O := debt c b n) (W := W) (R := 0) (m := 0) (T := ∅)
      (by rw [Nat.zero_add]; exact (expect_role m c r).symm)) $$ [Hc HO Ha]
  · isplitr; · iexact HI
    isplitl [Hc]; · iexact Hc
    isplitl [HO]; · iexact HO
    isplitr; · iapply (mayWait c (.dma r.sem) b n h1 h2); iexact Hl
    iexact Ha
  iintro ⟨HO, Ha, -, Hpay⟩
  ihave Hpay := (Entails.of_eq (rest_role m c r)) $$ Hpay
  imod (Rounds.cell_close ER (Rd m) (Set.mem_univ (K (c, some r))) (fun h => h) (R := 0 + 1) (duties_later m (roleCell c r))) $$ [Ha] with Hz
  · isplitr; · iexact HI
    iexact Ha
  iapply Hk
  isplitl [HO]
  · iexists _; iexact HO
  isplitl [Hz]
  · iexact Hz
  · iexact Hpay

/-- A receive. -/
theorem at_recv {j : Tr} (h : At m K c (i + 1) ⊢ wpc c (k ⟨⟩) Q) (ho : prog[i]? = some (.recv j) := by rfl)
    {sem : DmaSem sig} (hs : sem = rcvSem j := by rfl) {sp sp' : Space} {s s' : Shape} {e e' : EltTy}
    {sm : Memref sig .tc sp' s' e'} {dm : Memref sig .tc sp s e} {w1 : sm.view.WordExact} {w2 : dm.view.WordExact} (hd : dm.view.dmaCredit = amt j := by rfl) :
    At m K c i ⊢ wpc c (.op (.waitDma2 sem sm dm w1 w2) k) Q := by
  have hb : nsig i = 4 ∧ j.pos < nsend i := by have := order_at ho; simpa [Op.order] using this
  have ha := at_open m K (c := c) ho
  simp only [Op.need, bigSepL_singleton, A, AT] at ha
  refine ha.trans ?_
  iintro ⟨#Hp, HO, ⟨Hc, Ha⟩, Hk⟩
  iapply (wp_wait_role m K (.rcv j) (b := nsig i) (n := nsend i) (by rw [show slv (.dma (Role.rcv j).sem) = 2 + j.pos from slv_rcv j]; omega) (.inr hb.1) hs hd) $$ [HO Hc Ha]
  · isplitr; · iexact Hp
    isplitl [HO]; · iexact HO
    isplitl [Hc]; · iexact Hc
    iexact Ha
  iintro ⟨HO, Hz, Hl⟩
  iapply h
  iapply Hk
  isplitl [HO]; · iexact HO
  simp only [Op.give, bigSepL_cons', bigSepL_map, A, AT]
  isplitl [Hz]; · iexact Hz
  ihave Hl := (Entails.of_eq (show rolePay m c (.rcv j) = _ from landed_split m c j)) $$ Hl
  iexact Hl

/-- A wait for a transfer's departure. -/
theorem at_sent {j : Tr} (h : At m K c (i + 1) ⊢ wpc c (k ⟨⟩) Q) (ho : prog[i]? = some (.sent j) := by rfl)
    {sem : DmaSem sig} (hs : sem = sndSem j := by rfl) {sp sp' : Space} {s s' : Shape} {e e' : EltTy}
    {sm : Memref sig .tc sp' s' e'} {dm : Memref sig .tc sp s e} {w1 : sm.view.WordExact} {w2 : dm.view.WordExact} (hd : dm.view.dmaCredit = amt j := by rfl) :
    At m K c i ⊢ wpc c (.op (.waitDma2 sem sm dm w1 w2) k) Q := by
  have ha := at_open m K (c := c) ho
  simp only [Op.need, bigSepL_cons', bigSepL_singleton, bigSepL_nil, A, AT] at ha
  refine ha.trans ?_
  iintro ⟨#Hp, HO, ⟨Ha, Hc, -⟩, Hk⟩
  have hv : slv (.dma (Role.snd j).sem) = 0 := slv_snd j
  iapply (wp_wait_role m K (.snd j) (b := nsig i) (n := nsend i) (by omega) (.inl hv) hs hd) $$ [HO Hc Ha]
  · isplitr; · iexact Hp
    isplitl [HO]; · iexact HO
    isplitl [Hc]; · iexact Hc
    iexact Ha
  iintro ⟨HO, Hz, Hl⟩
  iapply h
  iapply Hk
  isplitl [HO]; · iexact HO
  ihave Hl := (Entails.of_eq (show rolePay m c (.snd j) = src m c j from rfl)) $$ Hl
  simp only [Op.give, bigSepL_cons', bigSepL_nil, A, AT]
  isplitl [Hz]; · iexact Hz
  isplitl [Hl]; · iexact Hl
  iempintro

/-- The wait for the residual's copy. -/
theorem at_resw (h : At m K c (i + 1) ⊢ wpc c (k ⟨⟩) Q) (ho : prog[i]? = some .resw := by rfl)
    {sem : DmaSem sig} (hs : sem = resSem := by rfl) {sp sp' : Space} {s s' : Shape} {e e' : EltTy}
    {sm : Memref sig .tc sp' s' e'} {dm : Memref sig .tc sp s e} {w1 : sm.view.WordExact} {w2 : dm.view.WordExact} (hd : dm.view.dmaCredit = amtRes := by rfl) :
    At m K c i ⊢ wpc c (.op (.waitDma2 sem sm dm w1 w2) k) Q := by
  have ha := at_open m K (c := c) ho
  simp only [Op.need, Op.give, bigSepL_singleton, A, AM] at ha
  refine ha.trans ?_
  iintro ⟨#Hp, HO, ⟨Hc, Ha⟩, Hk⟩
  iapply (wp_wait_role m K .res (b := nsig i) (n := nsend i) (by rw [show slv (.dma Role.res.sem) = 0 from slv_res]; omega) (.inl slv_res) hs hd) $$ [HO Hc Ha]
  · isplitr; · iexact Hp
    isplitl [HO]; · iexact HO
    isplitl [Hc]; · iexact Hc
    iexact Ha
  iintro ⟨HO, Hz, Hl⟩
  iapply h
  iapply Hk
  isplitl [HO]; · iexact HO
  isplitl [Hz]; · iexact Hz
  ihave Hl := (Entails.of_eq (show rolePay m c .res = iprop(kReg m c ∗ aReg m c) from rfl)) $$ Hl
  iexact Hl

/-! ## Copies and transfers -/

theorem mem_role (c : Dev nD) (r : Role) : (0 : Fin 4) ∈ (Rd m).duties (roleCell c r) 0 := by
  rw [duties_role]; exact Finset.mem_singleton_self _
theorem to_role {c : Dev nD} {r : Role} {P : sProp 𝕄} (h : P ⊢ rolePay m c r) : P ⊢ (Rd m).payload (roleCell c r) 0 0 := by
  rw [payload_role]; exact h

/-- The residual's local copy. -/
theorem at_copy (h : At m K c (i + 1) ⊢ wpc c (k ⟨⟩) Q) (ho : prog[i]? = some .copy := by rfl)
    {off : Fin 2 → ℕ} (hoff : off = k0_off1 c := by rfl) {inb : ∀ a, off a + S128x2048.size a ≤ S2048x2048.size a} {h1} {sem : DmaSem sig} (hs : sem = resSem := by rfl)
    {hsrc} {hdst} {hsem} :
    At m K c i ⊢ wpc c (.op (.enqueueDma (aM.slice (Rect.unit (s := S2048x2048) off S128x2048.size inb) h1) (.here kM) (.dma sem) hsrc hdst hsem) k) Q := by
  subst hs
  have hoff' := hoff.trans (off1_eq c)
  have e : (aM.slice (Rect.unit (s := S2048x2048) off S128x2048.size inb) h1).view.set = rows (ownRow 0 c) 128 :=
    (View.set_slice_whole _ _).trans (set_rows hoff' rfl inb)
  have e2 : under c (aM.slice (Rect.unit (s := S2048x2048) off S128x2048.size inb) h1) fullShare (R m c) = aReg m c := by
    show ((c : Thread nD τ).loc main_arg1 ↦[(aM.slice (Rect.unit (s := S2048x2048) off S128x2048.size inb) h1).view.set]{fullShare} R m c) = _
    rw [e]; rfl
  have e3 : ∀ f, under c kM fullShare f = ((c : Thread nD τ).loc cc0_scratch1 ↦{fullShare} f : sProp 𝕄) := by
    intro f
    show ((c : Thread nD τ).loc cc0_scratch1 ↦[kM.view.set]{fullShare} f : sProp 𝕄) = _
    rw [show kM.view.set = Finset.univ from View.set_whole _]
  have ha := at_open m K (c := c) ho
  simp only [Op.need, Op.give, bigSepL_singleton, A, AM] at ha
  refine ha.trans ?_
  unfold Pe
  iintro ⟨⟨#Hr, #Hl⟩, HO, ⟨Ht, Ha, HR, ⟨%f, HK⟩⟩, Hk⟩
  ihave #HI := (recs_role m K c .res) $$ Hr
  icases HI with ⟨#HI, #Hre⟩
  ihave HR := (Entails.of_eq e2.symm) $$ HR
  ihave HK := (Entails.of_eq (e3 f).symm) $$ HK
  have hpay : iprop(under c kM fullShare (kM.view.write (Elt F) f ((aM.slice (Rect.unit (s := S2048x2048) off S128x2048.size inb) h1).view.read (Elt F) (R m c)) Finset.univ)
      ∗ under c (aM.slice (Rect.unit (s := S2048x2048) off S128x2048.size inb) h1) fullShare (R m c)) ⊢ iprop(kReg m c ∗ aReg m c) := by
    rw [e2, show (kM.view.write (Elt F) f ((aM.slice (Rect.unit (s := S2048x2048) off S128x2048.size inb) h1).view.read (Elt F) (R m c)) Finset.univ) = _ from View.write_whole_univ _ _ _,
      read_resid m c hoff' inb, e3]
    exact Entails.of_eq rfl
  have hN : kM.view.amount (.dma resSem) = amtRes := by unfold amtRes; rfl
  have hk : (Rd m).amount (roleCell c .res) 0 0 = amtRes := by rw [amount_role]; unfold Role.amt; rfl
  iapply (Rounds.wp_copy_pointsTo 𝒱₀ ER (Rd m) (c : Thread nD τ) none (src := aM.slice (Rect.unit (s := S2048x2048) off S128x2048.size inb) h1) (dst := kM) (sem := .dma resSem) (κ := K (c, some .res)) (r := 0) (d := 0) (q := fullShare) (fs := R m c) (fd := f)
      (mem_role m c .res) () amtRes hN hk
      (to_role m (r := .res) hpay)) $$ [HR HK Ht]
  · isplitr; · iexact HI
    isplitl [HR]; · iexact HR
    isplitl [HK]; · iexact HK
    isplitl [Ht]; · iexact Ht
    iexact Hre
  iintro Hc
  iapply h
  iapply Hk
  isplitl [HO]; · iexact HO
  isplitl [Hc]; · iexact Hc
  iexact Ha

/-- A transfer to a neighbour. -/
theorem at_send {j : Tr} (h : At m K c (i + 1) ⊢ wpc c (k ⟨⟩) Q) (ho : prog[i]? = some (.send j) := by rfl)
    {n : Dev nD} (hn : n.val = devAt j c) {sp sp' : Space} {s : Shape} {e : EltTy} {sM : Memref sig .tc sp s e} {dM : Memref sig .tc sp' s e}
    (hm : Moves m c j sM dM) {sS rS : DmaSem sig} (h1 : sS = sndSem j) (h2 : rS = rcvSem j) {hsc : dM.view.ref.isScScratch = false}
    {hsrc : sM.view.WordExact} {hdst : dM.view.WordExact} {hsem : DmaTarget.Typed sp (.dma rS) (.remote (Dev.tc n : Thread nD τ) dM (.dma sS) hsc)}
    (hN : dM.view.amount (.dma (rcvSem j)) = amt j) :
    At m K c i ⊢ wpc c (.op (.enqueueDma sM (.remote (Dev.tc n : Thread nD τ) dM (.dma sS) hsc) (.dma rS) hsrc hdst hsem) k) Q := by
  obtain rfl : n = dst j c := Fin.ext (hn.trans (devAt_eq j c))
  subst h1; subst h2
  have hb : nsend i = j.pos := by have := order_at ho; exact beq_iff_eq.mp this
  have ha := at_open m K (c := c) ho
  simp only [Op.need, Op.give, bigSepL_cons', bigSepL_nil, A, AT] at ha
  refine ha.trans ?_
  unfold Pe Ow
  iintro ⟨⟨#Hr, #Hl⟩, ⟨%W, HO⟩, ⟨Hs, Hd, ⟨Ht1, Ht2⟩, -⟩, Hk⟩
  rw [hb, debt_send]
  ihave #HI := (recs_role m K c (.snd j)) $$ Hr
  icases HI with ⟨#HI1, #Hre1⟩
  ihave #HI := (recs_role m K (dst j c) (.rcv j)) $$ Hr
  icases HI with ⟨#HI2, #Hre2⟩
  ihave Hs := hm.from_src $$ Hs
  icases Hs with ⟨%q, %fs, %hq, Hs⟩
  ihave Hd := hm.to_land $$ Hd
  icases Hd with ⟨%fd, Hd⟩
  iapply (Rounds.wp_send_pointsTo 𝒱₀ ER (Rd m) (c : Thread nD τ) none (κ₁ := K (c, some (.snd j))) (κ₂ := K (dst j c, some (.rcv j)))
      (r₁ := 0) (r₂ := 0) (d₁ := 0) (d₂ := 0) (q := q) (fs := fs) (fd := fd)
      (mem_role m c (.snd j))
      (mem_role m (dst j c) (.rcv j))
      () () (amt j) hN (amount_role m c (.snd j) 0) (amount_role m (dst j c) (.rcv j) 0) (debt c (nsig i) (j.pos + 1)) rfl (W := W)
      (to_role m (r := .snd j) hq.1)
      (to_role m (r := .rcv j) (hq.2 fd))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hre1
    isplitl [Ht2]; · iexact Ht2
    iexact Hre2
  iintro ⟨Hc, HO⟩
  iapply h
  iapply Hk
  isplitl [HO]
  · iexists W; iexact HO
  · isplitl [Hc]; · iexact Hc
    iempintro

/-- A wait for rows of the result to arrive, -/
theorem at_got {j : Tr} (h : At m K c (i + 1) ⊢ wpc c (k ⟨⟩) Q) (ho : prog[i]? = some (.recv j) := by rfl) (hj : j.isRs = false := by rfl)
    {sem : DmaSem sig} (hs : sem = rcvSem j := by rfl) {sp' : Space} {s' : Shape} {e' : EltTy} {sm : Memref sig .tc sp' s' e'}
    {off size : Fin 2 → ℕ} (hsz : size = ![j.len, 2048] := by rfl) {inb : ∀ a, off a + size a ≤ S2048x2048.size a} {w} {w1} {w2} :
    At m K c i ⊢ wpc c (.op (.waitDma2 sem sm (oM.slice (Rect.unit (s := S2048x2048) off size inb) w) w1 w2) k) Q :=
  at_recv m K h ho hs (credit_eq hj hsz)
/-- and one for them to have been read. -/
theorem at_gone {j : Tr} (h : At m K c (i + 1) ⊢ wpc c (k ⟨⟩) Q) (ho : prog[i]? = some (.sent j) := by rfl) (hj : j.isRs = false := by rfl)
    {sem : DmaSem sig} (hs : sem = sndSem j := by rfl) {sp' : Space} {s' : Shape} {e' : EltTy} {sm : Memref sig .tc sp' s' e'}
    {off size : Fin 2 → ℕ} (hsz : size = ![j.len, 2048] := by rfl) {inb : ∀ a, off a + size a ≤ S2048x2048.size a} {w} {w1} {w2} :
    At m K c i ⊢ wpc c (.op (.waitDma2 sem sm (oM.slice (Rect.unit (s := S2048x2048) off size inb) w) w1 w2) k) Q :=
  at_sent m K h ho hs (credit_eq hj hsz)

/-- A transfer whose rows of the result go to the same rows on another device. -/
theorem at_out {j : Tr} (h : At m K c (i + 1) ⊢ wpc c (k ⟨⟩) Q) (ho : prog[i]? = some (.send j) := by rfl) (hj : j.isRs = false := by rfl)
    {n : Dev nD} (hn : n.val = devAt j c := by rfl) {off size : Fin 2 → ℕ} (hoff : off = offAt j c := by rfl) (hsz : size = ![j.len, 2048] := by rfl)
    {inb inb' : ∀ a, off a + size a ≤ S2048x2048.size a} {w w'} {sS rS : DmaSem sig} (h1 : sS = sndSem j := by rfl) (h2 : rS = rcvSem j := by rfl)
    {hsc} {hsrc} {hdst} {hsem} :
    At m K c i ⊢ wpc c (.op (.enqueueDma (oM.slice (Rect.unit (s := S2048x2048) off size inb') w')
      (.remote (Dev.tc n : Thread nD τ) (oM.slice (Rect.unit (s := S2048x2048) off size inb) w) (.dma sS) hsc) (.dma rS) hsrc hdst hsem) k) Q :=
  at_send m K h ho hn (moves_out m hj hoff hsz inb w) h1 h2 (credit_eq hj hsz)

/-- The ring's first transfer, out of the partial sums; -/
theorem at_first {g : Fin 2} (h : At m K c (i + 1) ⊢ wpc c (k ⟨⟩) Q) (ho : prog[i]? = some (.send (.rs 0 g)) := by rfl)
    {n : Dev nD} (hn : n.val = devAt (.rs 0 g) c := by rfl) {off off' : Fin 3 → ℕ} (hoff : off = k0_off2 c (gw g) := by rfl) (hoff' : off' = ![0, 64 * g.val, 0] := by rfl)
    {inb : ∀ a, off a + S1x64x2048.size a ≤ S1x2048x2048.size a} {inb' : ∀ a, off' a + S1x64x2048.size a ≤ S3x128x2048.size a} {w1} {w2} {w1'} {w2'}
    {sS rS : DmaSem sig} (h1 : sS = sndSem (.rs 0 g) := by rfl) (h2 : rS = rcvSem (.rs 0 g) := by rfl) {hsc} {hsrc} {hdst} {hsem}
    (hN : ((rM.slice (Rect.unit (s := S3x128x2048) off' S1x64x2048.size inb') w1').squeeze S64x2048 w2').view.amount (.dma (rcvSem (.rs 0 g))) = amt (.rs 0 g) := by rfl) :
    At m K c i ⊢ wpc c (.op (.enqueueDma ((pM.slice (Rect.unit (s := S1x2048x2048) off S1x64x2048.size inb) w1).squeeze S64x2048 w2)
      (.remote (Dev.tc n : Thread nD τ) ((rM.slice (Rect.unit (s := S3x128x2048) off' S1x64x2048.size inb') w1').squeeze S64x2048 w2') (.dma sS) hsc) (.dma rS) hsrc hdst hsem) k) Q :=
  at_send m K h ho hn (moves_rs0 m hoff hoff' inb inb' w1 w2 w1' w2') h1 h2 hN

/-- and its later ones, out of the landing buffer. -/
theorem at_next {t : Fin 3} {g : Fin 2} (h : At m K c (i + 1) ⊢ wpc c (k ⟨⟩) Q) (ho : prog[i]? = some (.send (.rs t g)) := by rfl)
    (hsrc : src m c (.rs t g) = rReg c ⟨t.val - 1, by omega⟩ g (accX m g t.val c) := by rfl)
    {n : Dev nD} (hn : n.val = devAt (.rs t g) c := by rfl) {off off' : Fin 3 → ℕ} (hoff : off = ![t.val - 1, 64 * g.val, 0] := by rfl) (hoff' : off' = ![t.val, 64 * g.val, 0] := by rfl)
    {inb : ∀ a, off a + S1x64x2048.size a ≤ S3x128x2048.size a} {inb' : ∀ a, off' a + S1x64x2048.size a ≤ S3x128x2048.size a} {w1} {w2} {w1'} {w2'}
    {sS rS : DmaSem sig} (h1 : sS = sndSem (.rs t g) := by rfl) (h2 : rS = rcvSem (.rs t g) := by rfl) {hsc} {hw} {hdst} {hsem}
    (hN : ((rM.slice (Rect.unit (s := S3x128x2048) off' S1x64x2048.size inb') w1').squeeze S64x2048 w2').view.amount (.dma (rcvSem (.rs t g))) = amt (.rs t g) := by rfl) :
    At m K c i ⊢ wpc c (.op (.enqueueDma ((rM.slice (Rect.unit (s := S3x128x2048) off S1x64x2048.size inb) w1).squeeze S64x2048 w2)
      (.remote (Dev.tc n : Thread nD τ) ((rM.slice (Rect.unit (s := S3x128x2048) off' S1x64x2048.size inb') w1').squeeze S64x2048 w2') (.dma sS) hsc) (.dma rS) hw hdst hsem) k) Q :=
  at_send m K h ho hn (moves_rs m hsrc hoff hoff' inb inb' w1 w2 w1' w2') h1 h2 hN

/-! ## The sums and the normalization -/

theorem add_takes (c : Dev nD) (s : Fin 3) (g : Fin 2) : bigSepL (Op.add s g).need (A m c)
    = iprop((((c : Thread nD τ).loc cc0_stg0_0) ↦{fullShare.left} P m c) ∗ rReg c s g (accX m g s.val (left c))) := rfl
/-- What a step's sum leaves is what the next step sends, or the full sum. -/
theorem add_leaves (c : Dev nD) (s : Fin 3) (g : Fin 2) : bigSepL (Op.add s g).give (A m c)
    = iprop((((c : Thread nD τ).loc cc0_stg0_0) ↦{fullShare.left} P m c) ∗ rReg c s g (accX m g (s.val + 1) c)) := by
  match s with
  | ⟨0, _⟩ => rfl
  | ⟨1, _⟩ => rfl
  | ⟨2, _⟩ => rfl

/-- A step's sum: what arrived plus the device's own rows, put back where it arrived. -/
theorem at_add {s : Fin 3} {g : Fin 2} (h : At m K c (i + 1) ⊢ wpc c (k ⟨⟩) Q) (ho : prog[i]? = some (.add s g) := by rfl)
    {off offp : Fin 3 → ℕ} (hoff : off = ![s.val, 64 * g.val, 0] := by rfl) (hoffp : offp = k0_off3 c (BitVec.ofNat 32 (3 - s.val)) (gw g) := by rfl)
    {inb : ∀ a, off a + S1x64x2048.size a ≤ S3x128x2048.size a} {inbp : ∀ a, offp a + S1x64x2048.size a ≤ S1x2048x2048.size a}
    {l1} {l2} {l3} {hx} {hm'}
    {pay : Vec F S1x64x2048 .f32 → Vec F S1x64x2048 .f32 → Vec F S1x64x2048 .f32}
    (hp : ∀ v w, pay v w = shapeCast S1x64x2048 (addf (shapeCast S64x2048 v shapeCasts_S1x64x2048_S64x2048) (shapeCast S64x2048 w shapeCasts_S1x64x2048_S64x2048)) shapeCasts_S64x2048_S1x64x2048 := by intros; rfl) :
    At m K c i ⊢ wpc c (.op (.load rM (Rect.unit (s := S3x128x2048) off S1x64x2048.size inb).toLoadRect l1) fun v =>
      .op (.load pM (Rect.unit (s := S1x2048x2048) offp S1x64x2048.size inbp).toLoadRect l2) fun w =>
      .op (.load rM (Rect.unit (s := S3x128x2048) off S1x64x2048.size inb).toLoadRect l3) fun _ =>
      .op (.store rM (Rect.unit (s := S3x128x2048) off S1x64x2048.size inb) (pay v w) Finset.univ hx hm') k) Q := by
  have hset : (rM.access (Rect.unit (s := S3x128x2048) off S1x64x2048.size inb)).set = slab s g :=
    (View.set_slice_whole _ _).trans (set_slab hoff inb)
  have ha := at_open m K (c := c) ho
  rw [add_takes, add_leaves] at ha
  refine ha.trans ?_
  iintro ⟨#Hp, HO, Hn, Hk⟩
  unfold rReg
  icases Hn with ⟨HP, ⟨%f, %hf, HR⟩⟩
  have hv := (holds_iff hoff inb shapeCasts_S1x64x2048_S64x2048 _ _).mp hf
  have hw := read_prows (F := F) (hoffp.trans (off3_eq s g c)) (partRow_le' (s.val + 1) g c) inbp shapeCasts_S1x64x2048_S64x2048 (P m c)
  iapply (wp_load_rect 𝒱₀ (c : Thread nD τ) none Set.univ (m := rM) (r := Rect.unit (s := S3x128x2048) off S1x64x2048.size inb) (S := slab s g) (f := f) (q := fullShare) (subset_of_eq hset)) $$ HR
  iintro HR
  iapply (wp_load_rect 𝒱₀ (c : Thread nD τ) none Set.univ (m := pM) (r := Rect.unit (s := S1x2048x2048) offp S1x64x2048.size inbp) (S := Finset.univ) (f := P m c) (q := fullShare.left) (Finset.subset_univ _)) $$ HP
  iintro HP
  iapply (wp_load_rect 𝒱₀ (c : Thread nD τ) none Set.univ (m := rM) (r := Rect.unit (s := S3x128x2048) off S1x64x2048.size inb) (S := slab s g) (f := f) (q := fullShare) (subset_of_eq hset)) $$ HR
  iintro HR
  iapply (wp_store 𝒱₀ (c : Thread nD τ) none Set.univ (m := rM) (r := Rect.unit (s := S3x128x2048) off S1x64x2048.size inb) (S := slab s g) (f := f) (subset_of_eq hset)) $$ HR
  iintro HR
  iapply h
  iapply Hk
  isplitl [HO]; · iexact HO
  isplitl [HP]; · iexact HP
  iexists _
  isplitr
  rotate_left
  · iexact HR
  · ipureintro
    refine (holds_iff hoff inb shapeCasts_S1x64x2048_S64x2048 _ _).mpr ?_
    refine (congrArg (fun w => shapeCast S64x2048 w shapeCasts_S1x64x2048_S64x2048)
      (View.read_write_univ (v := rM.access (Rect.unit (s := S3x128x2048) off S1x64x2048.size inb)) f _)).trans ?_
    rw [hp, shapeCast_shapeCast]
    exact congrArg₂ addf hv hw

/-- The normalization of half a block. -/
theorem at_norm {g : Fin 2} (h : At m K c (i + 1) ⊢ wpc c (k ⟨⟩) Q) (ho : prog[i]? = some (.norm g) := by rfl)
    {offr : Fin 3 → ℕ} {offk offo : Fin 2 → ℕ} {offg : Fin 1 → ℕ} (hr : offr = ![2, 64 * g.val, 0] := by rfl) (hk : offk = ![64 * g.val, 0] := by rfl) (hg : offg = fun _ => 0 := by funext a; fin_cases a; rfl) (hoo : offo = k0_off4 c (gw g) := by rfl)
    {ir : ∀ a, offr a + S1x64x2048.size a ≤ S3x128x2048.size a} {ik : ∀ a, offk a + S64x2048.size a ≤ S128x2048.size a}
    {ig : ∀ a, offg a + S2048.size a ≤ S2048.size a} {io : ∀ a, offo a + S64x2048.size a ≤ S2048x2048.size a}
    {l1} {l2} {l3} {l4} {hx} {hm'}
    {pay : Vec F S1x64x2048 .f32 → Vec F S64x2048 .f32 → Vec F S2048 .f32 → Vec F S64x2048 .f32} (hp : pay = k0_pay4 := by rfl) :
    At m K c i ⊢ wpc c (.op (.load rM (Rect.unit (s := S3x128x2048) offr S1x64x2048.size ir).toLoadRect l1) fun v =>
      .op (.load kM (Rect.unit (s := S128x2048) offk S64x2048.size ik).toLoadRect l2) fun r =>
      .op (.load gM (Rect.unit (s := S2048) offg S2048.size ig).toLoadRect l3) fun w =>
      .op (.load oM (Rect.unit (s := S2048x2048) offo S64x2048.size io).toLoadRect l4) fun _ =>
      .op (.store oM (Rect.unit (s := S2048x2048) offo S64x2048.size io) (pay v r w) Finset.univ hx hm') k) Q := by
  subst hp
  have hoo' := hoo.trans (off4_eq g c)
  have hset : (rM.access (Rect.unit (s := S3x128x2048) offr S1x64x2048.size ir)).set = slab 2 g :=
    (View.set_slice_whole _ _).trans (set_slab hr ir)
  have hseto : (oM.access (Rect.unit (s := S2048x2048) offo S64x2048.size io)).set = rows (ownRow g c) 64 :=
    (View.set_slice_whole _ _).trans (set_rows hoo' rfl io)
  have ha := at_open m K (c := c) ho
  simp only [Op.need, Op.give, bigSepL_cons', bigSepL_map, bigSepL_nil, A, AM, AT] at ha
  refine ha.trans ?_
  unfold rReg kReg oAny
  iintro ⟨#Hp, HO, ⟨Hg, ⟨Hz, HK, HA⟩, ⟨%f, %hf, HR⟩, ⟨%fo, HQ⟩, -⟩, Hk⟩
  have hv := (holds_iff hr ir shapeCasts_S1x64x2048_S64x2048 _ _).mp hf
  iapply (wp_load_rect 𝒱₀ (c : Thread nD τ) none Set.univ (m := rM) (r := Rect.unit (s := S3x128x2048) offr S1x64x2048.size ir) (S := slab 2 g) (f := f) (q := fullShare) (subset_of_eq hset)) $$ HR
  iintro HR
  iapply (wp_load_rect 𝒱₀ (c : Thread nD τ) none Set.univ (m := kM) (r := Rect.unit (s := S128x2048) offk S64x2048.size ik) (S := Finset.univ) (f := chunk m c) (q := fullShare) (Finset.subset_univ _)) $$ HK
  iintro HK
  iapply (wp_load_rect 𝒱₀ (c : Thread nD τ) none Set.univ (m := gM) (r := Rect.unit (s := S2048) offg S2048.size ig) (S := Finset.univ) (f := γ m c) (q := fullShare) (Finset.subset_univ _)) $$ Hg
  iintro Hg
  iapply (wp_load_rect 𝒱₀ (c : Thread nD τ) none Set.univ (m := oM) (r := Rect.unit (s := S2048x2048) offo S64x2048.size io) (S := rows (ownRow g c) 64) (f := fo) (q := fullShare) (subset_of_eq hseto)) $$ HQ
  iintro HQ
  iapply (wp_store 𝒱₀ (c : Thread nD τ) none Set.univ (m := oM) (r := Rect.unit (s := S2048x2048) offo S64x2048.size io) (S := rows (ownRow g c) 64) (f := fo) (subset_of_eq hseto)) $$ HQ
  iintro HQ
  iapply h
  iapply Hk
  isplitl [HO]; · iexact HO
  isplitl [Hg]; · iexact Hg
  isplitl [Hz HK HA]
  · isplitl [Hz]; · iexact Hz
    isplitl [HK]; · iexact HK
    iexact HA
  isplitl [HR]
  · iexists f
    isplitr
    · ipureintro; exact hf
    · iexact HR
  have hfin : iprop(((c : Thread nD τ).loc cc0_stg2_0) ↦[rows (ownRow g c) 64]{fullShare} ((oM.access (Rect.unit (s := S2048x2048) offo S64x2048.size io)).write (Elt F) fo
        (k0_pay4 ((rM.access (Rect.unit (s := S3x128x2048) offr S1x64x2048.size ir)).read (Elt F) f)
          ((kM.access (Rect.unit (s := S128x2048) offk S64x2048.size ik)).read (Elt F) (chunk m c))
          ((gM.access (Rect.unit (s := S2048) offg S2048.size ig)).read (Elt F) (γ m c))) Finset.univ))
      ⊢ bigSepL (ownKids g) (src m c) := by
    rw [← own_split]
    unfold oReg
    refine Entails.of_eq (pointsTo_congr fun x hx => ?_)
    rw [pay4_eq]
    have e1 : shapeCast S64x2048 ((rM.access (Rect.unit (s := S3x128x2048) offr S1x64x2048.size ir)).read (Elt F) f) shapeCasts_S1x64x2048_S64x2048 = accX m g 3 c := hv
    have e2 : (kM.access (Rect.unit (s := S128x2048) offk S64x2048.size ik)).read (Elt F) (chunk m c) = resX m g c := read_chunk m c hk ik
    have e3 : (gM.access (Rect.unit (s := S2048) offg S2048.size ig)).read (Elt F) (γ m c) = γ m c := Memref.readAt_unit_zero (Elt F) cc0_stg1_0 hg ig (γ m c)
    rw [e1, e2, e3]
    exact write_own m hoo' io fo x hx
  iapply hfin
  iexact HQ

/-! ## Regroupings -/

/-- What has landed, whole again. -/
theorem at_join {j : Tr} (ho : prog[i]? = some (.join j)) : At m K c i ⊢ At m K c (i + 1) := by
  have ha := at_open m K (c := c) ho
  simp only [Op.need, Op.give, bigSepL_cons', bigSepL_map, bigSepL_nil, A, AT] at ha
  refine ha.trans ?_
  iintro ⟨-, HO, Hn, Hk⟩
  iapply Hk
  isplitl [HO]; · iexact HO
  isplitl [Hn]
  · rw [landed_split m c j]; iexact Hn
  · iempintro

/-- The device's own rows, whole again. -/
theorem at_joinOwn {g : Fin 2} (ho : prog[i]? = some (.joinOwn g)) : At m K c i ⊢ At m K c (i + 1) := by
  have ha := at_open m K (c := c) ho
  simp only [Op.need, Op.give, bigSepL_map, bigSepL_singleton, A, AM, AT] at ha
  refine ha.trans ?_
  iintro ⟨-, HO, Hn, Hk⟩
  iapply Hk
  isplitl [HO]; · iexact HO
  rw [own_split m c g]
  iexact Hn

end Cert.K7

end
-- ==== Proof.Walk.lean ====
module

public import proofs.«01_k».proof.Proof.Steps
public import proofs.«01_k».proof.Proof.Gen.KernelIdeal.Skeleton

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × Option Role → ℕ)

/-- The body on one device's buffers. -/
abbrev body : Prog (TpuEff nD τ sig (Elt F) Λ₀ .tc) PUnit :=
  cc0_body pM (Memref.isWhole_whole _) aM (Memref.isWhole_whole _) gM (Memref.isWhole_whole _) oM (Memref.isWhole_whole _) rM (Memref.isWhole_whole _) kM (Memref.isWhole_whole _)
    cc0_scratch2 cc0_scratch3 cc0_scratch4 cc0_scratch5 cc0_scratch6 cc0_scratch7 cc0_scratch8 cc0_scratch9 cc0_scratch10

set_option maxRecDepth 65536 in
/-- The body, from its first operation to its last. -/
theorem walk {c : Dev nD} {Q : Post F PUnit} (h : At m K c 147 ⊢ Q ⟨⟩) : At m K c 0 ⊢ wpc c body Q := by
  unfold body
  rw [cc0_body_eq_skeleton]
  unfold cc0_body_skel
  rw [k0_part61_eq_skeleton]
  unfold k0_part61_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, semSignalWord, semWaitWord, wp_deviceId,
    Prog.lift, Prog.bind_op, Prog.bind_ret, Prog.pure_eq_ret, Prog.bind_assoc]
  refine at_sig m K ?_
  refine at_sig m K ?_
  refine at_sig m K ?_
  refine at_sig m K ?_
  refine at_bar m K ?_
  refine at_copy m K ?_
  refine at_first m K ?_
  refine at_first m K ?_
  refine at_recv m K ?_
  refine at_add m K ?_
  refine at_next m K ?_
  refine at_recv m K ?_
  refine at_add m K ?_
  refine at_next m K ?_
  refine at_recv m K ?_
  refine at_add m K ?_
  simp only [k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel,
    Prog.lift, Prog.bind_op, Prog.bind_ret, Prog.pure_eq_ret, Prog.bind_assoc]
  refine at_resw m K ?_
  refine at_norm m K ?_
  refine at_out m K ?_
  refine at_out m K ?_
  refine at_out m K ?_
  refine at_recv m K ?_
  refine at_add m K ?_
  refine at_next m K ?_
  refine at_recv m K ?_
  refine at_add m K ?_
  refine at_next m K ?_
  refine at_recv m K ?_
  refine at_add m K ?_
  refine at_norm m K ?_
  refine at_out m K ?_
  refine at_out m K ?_
  refine at_out m K ?_
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel,
    Prog.lift, Prog.bind_op, Prog.bind_ret, Prog.pure_eq_ret, Prog.bind_assoc]
  refine at_got m K ?_
  refine at_out m K ?_
  refine at_out m K ?_
  refine at_out m K ?_
  refine at_got m K ?_
  refine at_out m K ?_
  refine at_got m K ?_
  refine at_out m K ?_
  refine at_out m K ?_
  refine at_out m K ?_
  refine at_got m K ?_
  refine at_out m K ?_
  refine at_got m K ?_
  refine at_out m K ?_
  refine at_out m K ?_
  refine at_out m K ?_
  refine at_got m K ?_
  refine at_out m K ?_
  refine at_got m K ?_
  simp only [k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel,
    Prog.lift, Prog.bind_op, Prog.bind_ret, Prog.pure_eq_ret, Prog.bind_assoc]
  refine at_out m K ?_
  refine at_out m K ?_
  refine at_out m K ?_
  refine at_got m K ?_
  refine at_out m K ?_
  refine at_got m K ?_
  refine at_out m K ?_
  refine at_out m K ?_
  refine at_got m K ?_
  refine at_out m K ?_
  refine at_got m K ?_
  refine at_out m K ?_
  refine at_out m K ?_
  refine at_got m K ?_
  refine at_out m K ?_
  refine at_got m K ?_
  refine at_out m K ?_
  refine at_got m K ?_
  simp only [k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel,
    Prog.lift, Prog.bind_op, Prog.bind_ret, Prog.pure_eq_ret, Prog.bind_assoc]
  refine at_out m K ?_
  refine at_got m K ?_
  refine at_out m K ?_
  refine at_got m K ?_
  refine at_out m K ?_
  refine at_got m K ?_
  refine at_out m K ?_
  refine at_got m K ?_
  refine at_out m K ?_
  refine at_got m K ?_
  refine at_out m K ?_
  refine at_got m K ?_
  refine at_out m K ?_
  refine at_got m K ?_
  refine at_out m K ?_
  refine at_got m K ?_
  refine at_out m K ?_
  refine at_sent m K ?_
  simp only [k0_part47_eq_skeleton, k0_part47_skel, k0_part48_eq_skeleton, k0_part48_skel, k0_part49_eq_skeleton, k0_part49_skel, k0_part50_eq_skeleton, k0_part50_skel, k0_part51_eq_skeleton, k0_part51_skel,
    Prog.lift, Prog.bind_op, Prog.bind_ret, Prog.pure_eq_ret, Prog.bind_assoc]
  refine at_sent m K ?_
  refine at_sent m K ?_
  refine at_gone m K ?_
  refine at_gone m K ?_
  refine at_sent m K ?_
  refine at_sent m K ?_
  refine at_sent m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  simp only [k0_part52_eq_skeleton, k0_part52_skel, k0_part53_eq_skeleton, k0_part53_skel, k0_part54_eq_skeleton, k0_part54_skel, k0_part55_eq_skeleton, k0_part55_skel,
    Prog.lift, Prog.bind_op, Prog.bind_ret, Prog.pure_eq_ret, Prog.bind_assoc]
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  refine at_gone m K ?_
  simp only [k0_part56_eq_skeleton, k0_part56_skel, k0_part57_eq_skeleton, k0_part57_skel, k0_part58_eq_skeleton, k0_part58_skel, k0_part59_eq_skeleton, k0_part59_skel, k0_part60_eq_skeleton, k0_part60_skel,
    Prog.lift, Prog.bind_op, Prog.bind_ret, Prog.pure_eq_ret, Prog.bind_assoc]
  refine at_gone m K ?_
  refine at_got m K ?_
  refine at_got m K ?_
  refine at_got m K ?_
  refine at_got m K ?_
  refine at_got m K ?_
  refine at_got m K ?_
  refine at_got m K ?_
  refine at_got m K ?_
  refine at_got m K ?_
  refine at_got m K ?_
  refine at_got m K ?_
  refine at_got m K ?_
  refine at_got m K ?_
  refine at_got m K ?_
  refine at_got m K ?_
  refine at_got m K ?_
  unfold wpc
  rw [wp_ret]
  iintro H
  imodintro
  iapply h
  iexact H

end Cert.K7
end
-- ==== Proof.Ends.lean ====
/-
# Where a device starts and where it ends

From a device's buffers and its share of the protocol to the state before the first operation, and from the state after
the last one back to the buffers.
-/
module

public import proofs.«01_k».proof.Proof.Walk

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Role → ℕ)

/-! ## Separating conjunctions over transfers -/

theorem univ_all : (Finset.univ : Finset Tr) = allTrs.toFinset := by
  ext j; simp only [Finset.mem_univ, List.mem_toFinset, true_iff]; exact allTrs_all j

theorem over_list (Φ : Tr → sProp 𝕄) : bigSep Finset.univ Φ = bigSepL allTrs Φ := bigSep_univ_eq_bigSepL allTrs univ_all allTrs_nodup Φ

/-- The ring's transfers, and the others. -/
theorem over_all (Φ : Tr → sProp 𝕄) : bigSepL allTrs Φ = iprop((bigSepL (rsTrs 0) Φ ∗ bigSepL (rsTrs 1) Φ) ∗ bigSepL outTrs Φ) := by
  unfold allTrs
  rw [bigSepL_append, bigSepL_append]

/-- The cells of a device by what they are for. -/
def cellEquiv : Unit ⊕ (Tr ⊕ (Tr ⊕ Unit)) ≃ Option Role where
  toFun | .inl _ => none | .inr (.inl j) => some (.snd j) | .inr (.inr (.inl j)) => some (.rcv j) | .inr (.inr (.inr _)) => some .res
  invFun | none => .inl () | some (.snd j) => .inr (.inl j) | some (.rcv j) => .inr (.inr (.inl j)) | some .res => .inr (.inr (.inr ()))
  left_inv := by rintro (_ | _ | _ | _) <;> rfl
  right_inv := by rintro (_ | _ | _ | _) <;> rfl

theorem over_unit (Φ : Unit → sProp 𝕄) : bigSep Finset.univ Φ = Φ () := bigSep_univ_eq_bigSepL [()] (by decide) (by decide) Φ

theorem over_cells (Φ : Option Role → sProp 𝕄) : bigSep Finset.univ Φ
    = iprop(Φ none ∗ (bigSep Finset.univ fun j => Φ (some (.snd j))) ∗ (bigSep Finset.univ fun j => Φ (some (.rcv j))) ∗ Φ (some .res)) := by
  rw [bigSep_univ_equiv cellEquiv Φ, bigSep_univ_sum, bigSep_univ_sum, bigSep_univ_sum, over_unit, over_unit]; rfl

def roleEquiv : Tr ⊕ (Tr ⊕ Unit) ≃ Role where
  toFun | .inl j => .snd j | .inr (.inl j) => .rcv j | .inr (.inr _) => .res
  invFun | .snd j => .inl j | .rcv j => .inr (.inl j) | .res => .inr (.inr ())
  left_inv := by rintro (_ | _ | _) <;> rfl
  right_inv := by rintro (_ | _ | _) <;> rfl

theorem over_roles (Φ : Role → sProp 𝕄) : bigSep Finset.univ Φ
    = iprop((bigSep Finset.univ fun j => Φ (.snd j)) ∗ (bigSep Finset.univ fun j => Φ (.rcv j)) ∗ Φ .res) := by
  rw [bigSep_univ_equiv roleEquiv Φ, bigSep_univ_sum, bigSep_univ_sum, over_unit]; rfl

theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The result's rows -/

/-- The rows of the result on device `c`: its own two halves and, for each transfer that reaches it, the rows that arrive. -/
def pLo (c : Dev nD) : Fin 2 ⊕ Tr → ℕ
  | .inl g => ownRow g c
  | .inr j => rowOf j (frm j c)
def pLen : Fin 2 ⊕ Tr → ℕ
  | .inl _ => 64
  | .inr j => j.len

theorem pieces_apart : ∀ (c : Dev nD) (p p' : Fin 2 ⊕ Tr), p ≠ p' → pLo c p + pLen p ≤ pLo c p' ∨ pLo c p' + pLen p' ≤ pLo c p ∨ pLen p = 0 ∨ pLen p' = 0 := by
  decide +kernel
theorem pieces_cover : ∀ (c : Dev nD) (b : Fin 64), ∃ p : Fin 2 ⊕ Tr, pLo c p ≤ 32 * b.val ∧ 32 * b.val + 32 ≤ pLo c p + pLen p := by
  decide +kernel

theorem pieces_disjoint (c : Dev nD) (p p' : Fin 2 ⊕ Tr) (h : p ≠ p') : Disjoint (rows (pLo c p) (pLen p)) (rows (pLo c p') (pLen p')) :=
  Finset.disjoint_left.mpr fun i hi hi' => by
    rw [mem_rows] at hi hi'
    have := pieces_apart c p p' h
    omega

theorem pieces_union (c : Dev nD) : (Finset.univ.biUnion fun p : Fin 2 ⊕ Tr => rows (pLo c p) (pLen p)) = Finset.univ := by
  ext i
  simp only [Finset.mem_biUnion, Finset.mem_univ, true_and, iff_true]
  have hi : (i 0).val < 2048 := (i 0).isLt
  obtain ⟨p, h1, h2⟩ := pieces_cover c ⟨(i 0).val / 32, by omega⟩
  refine ⟨p, mem_rows.mpr ?_⟩
  dsimp only at h1 h2
  omega

/-- The whole result, by pieces. -/
theorem out_pieces (c : Dev nD) (f : Buf (Elt F) ((c : Thread nD τ).loc cc0_stg2_0)) :
    (((c : Thread nD τ).loc cc0_stg2_0) ↦{fullShare} f : sProp 𝕄)
      = iprop((bigSep Finset.univ fun g : Fin 2 => ((c : Thread nD τ).loc cc0_stg2_0) ↦[rows (ownRow g c) 64]{fullShare} f)
        ∗ bigSep Finset.univ fun j : Tr => ((c : Thread nD τ).loc cc0_stg2_0) ↦[rows (rowOf j (frm j c)) j.len]{fullShare} f) := by
  have h := pointsTo_biUnion (ℓ := (c : Thread nD τ).loc cc0_stg2_0) (q := fullShare) (f := f) (Ix := Unit) (Name := ℕ) (U := UU) (Lvl := ℕ)
    (Finset.univ : Finset (Fin 2 ⊕ Tr)) (fun p => rows (pLo c p) (pLen p))
    (fun p _ p' _ h => pieces_disjoint c p p' h)
  rw [bigSep_univ_sum] at h
  refine Eq.trans ?_ h
  rw [show (Finset.univ.biUnion fun p : Fin 2 ⊕ Tr => rows (pLo c p) (pLen p)) = Finset.univ from pieces_union c]

end Cert.K7

end
-- ==== Proof.Enter.lean ====
/-
# From a device's buffers to its first operation, and back

What a device is given at launch makes up the state before the first operation; the state after the last operation makes up
the device's whole buffers, the result holding the values of every device's rows, with every semaphore at zero.
-/
module

public import proofs.«01_k».proof.Proof.Ends
public import proofs.«01_k».proof.Proof.Walk

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Role → ℕ)

/-! ## What a device starts with -/

/-- The tokens of what device `c` signals and sends. -/
def pays (c : Dev nD) : sProp 𝕄 := iprop((bigSep Finset.univ fun k : Fin 4 => dutyTok ER (barCell (sgn k c)) 0 k)
  ∗ (bigSep Finset.univ fun j : Tr => dutyTok ER (sndCell c j) 0 0)
  ∗ (bigSep Finset.univ fun j : Tr => dutyTok ER (rcvCell (dst j c) j) 0 0) ∗ dutyTok ER (resCell c) 0 0)
/-- Its positions at its own cells. -/
def marks (c : Dev nD) : sProp 𝕄 := iprop(atPos ER (barCell c) 0 ∅ 0
  ∗ (bigSep Finset.univ fun j : Tr => atPos ER (sndCell c j) 0 ∅ 0)
  ∗ (bigSep Finset.univ fun j : Tr => atPos ER (rcvCell c j) 0 ∅ 0) ∗ atPos ER (resCell c) 0 ∅ 0)
/-- The credit of what it waits for. -/
def creds (c : Dev nD) : sProp 𝕄 := iprop(cred (tallyAt (barCell c) () 4) ∗ bigSep Finset.univ fun j : Tr => cred (tallyAt (rcvCell c j) () (amt j)))
/-- Its two inputs in place, its residual, and the buffers it writes at any contents. -/
def bufs (c : Dev nD) : sProp 𝕄 := iprop((((c : Thread nD τ).loc cc0_stg0_0) ↦{fullShare} P m c) ∗ (((c : Thread nD τ).loc cc0_stg1_0) ↦{fullShare} γ m c)
  ∗ (∃ f : Buf (Elt F) ((c : Thread nD τ).loc cc0_stg2_0), ((c : Thread nD τ).loc cc0_stg2_0) ↦{fullShare} f)
  ∗ (∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (((c : Thread nD τ).loc main_arg1) ↦{fullShare} R m c))
/-- What it ends with. -/
def bufsEnd (c : Dev nD) : sProp 𝕄 := iprop((((c : Thread nD τ).loc cc0_stg0_0) ↦{fullShare} P m c) ∗ (((c : Thread nD τ).loc cc0_stg1_0) ↦{fullShare} γ m c)
  ∗ (((c : Thread nD τ).loc cc0_stg2_0) ↦{fullShare} outF m)
  ∗ (∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (((c : Thread nD τ).loc main_arg1) ↦{fullShare} R m c))

/-! ## The partial sums and the residual: what the body does not move -/

/-- The two blocks the ring's first step sends. -/
def pcut (c : Dev nD) : Finset S1x2048x2048.Idx := prows (partRow 0 0 c) ∪ prows (partRow 0 1 c)
def kept (c : Dev nD) : sProp 𝕄 := iprop((((c : Thread nD τ).loc cc0_stg0_0) ↦[Finset.univ \ pcut c]{fullShare.right} P m c)
  ∗ (((c : Thread nD τ).loc main_arg1) ↦[Finset.univ \ rows (ownRow 0 c) 128]{fullShare} R m c))

theorem pcut_apart (c : Dev nD) : Disjoint (prows (partRow 0 0 c)) (prows (partRow 0 1 c)) :=
  Finset.disjoint_left.mpr fun i hi hi' => by
    rw [mem_prows] at hi hi'
    have e : partRow 0 1 c = partRow 0 0 c + 64 := by unfold partRow; simp
    omega

theorem part_cut (c : Dev nD) : (((c : Thread nD τ).loc cc0_stg0_0) ↦{fullShare} P m c : sProp 𝕄)
    ⊣⊢ iprop((((c : Thread nD τ).loc cc0_stg0_0) ↦{fullShare.left} P m c) ∗ (pReg m c (partRow 0 0 c) ∗ pReg m c (partRow 0 1 c))
      ∗ (((c : Thread nD τ).loc cc0_stg0_0) ↦[Finset.univ \ pcut c]{fullShare.right} P m c)) := by
  refine (pointsTo_share (PosShare.mem_left_op_right fullShare)).trans (sep_congr .rfl ?_)
  refine (pointsTo_split_subset (Finset.subset_univ (pcut c))).trans (sep_congr ?_ .rfl)
  exact pointsTo_union (pcut_apart c)

theorem resid_cut (c : Dev nD) : (((c : Thread nD τ).loc main_arg1) ↦{fullShare} R m c : sProp 𝕄)
    ⊣⊢ iprop(aReg m c ∗ (((c : Thread nD τ).loc main_arg1) ↦[Finset.univ \ rows (ownRow 0 c) 128]{fullShare} R m c)) :=
  pointsTo_split_subset (Finset.subset_univ _)

/-! ## The ring's landing buffer -/

theorem slab_apart (p p' : Fin 3 × Fin 2) (h : p ≠ p') : Disjoint (slab p.1 p.2) (slab p'.1 p'.2) :=
  Finset.disjoint_left.mpr fun i hi hi' => by
    rw [mem_slab] at hi hi'
    refine h (Prod.ext (Fin.ext ?_) (Fin.ext ?_)) <;> omega

theorem slab_union : (Finset.univ.biUnion fun p : Fin 3 × Fin 2 => slab p.1 p.2) = Finset.univ := by
  ext i
  simp only [Finset.mem_biUnion, Finset.mem_univ, true_and, iff_true]
  have h0 : (i 0).val < 3 := (i 0).isLt
  have h1 : (i 1).val < 128 := (i 1).isLt
  refine ⟨(⟨(i 0).val, h0⟩, ⟨(i 1).val / 64, by omega⟩), mem_slab.mpr ?_⟩
  dsimp only
  omega

theorem over_slabs (Φ : Fin 3 × Fin 2 → sProp 𝕄) : bigSep Finset.univ Φ
    = iprop(Φ (0, 0) ∗ Φ (1, 0) ∗ Φ (2, 0) ∗ Φ (0, 1) ∗ Φ (1, 1) ∗ Φ (2, 1)) :=
  bigSep_univ_eq_bigSepL [(0, 0), (1, 0), (2, 0), (0, 1), (1, 1), (2, 1)] (by decide) (by decide) Φ

theorem rAny_intro (c : Dev nD) (s : Fin 3) (g : Fin 2) (f : Buf (Elt F) ((c : Thread nD τ).loc cc0_scratch0)) :
    (((c : Thread nD τ).loc cc0_scratch0) ↦[slab s g]{fullShare} f : sProp 𝕄) ⊢ rAny (F := F) c s g := by
  unfold rAny
  iintro H
  iexists f
  iexact H

theorem ring_out (c : Dev nD) : iprop(∃ f : Buf (Elt F) ((c : Thread nD τ).loc cc0_scratch0), ((c : Thread nD τ).loc cc0_scratch0) ↦{fullShare} f : sProp 𝕄)
    ⊢ bigSep Finset.univ fun p : Fin 3 × Fin 2 => rAny (F := F) c p.1 p.2 := by
  iintro ⟨%f, H⟩
  have e := pointsTo_biUnion (ℓ := (c : Thread nD τ).loc cc0_scratch0) (q := fullShare) (f := f) (Ix := Unit) (Name := ℕ) (U := UU) (Lvl := ℕ)
    (Finset.univ : Finset (Fin 3 × Fin 2)) (fun p => slab p.1 p.2) (fun p _ p' _ h => slab_apart p p' h)
  rw [show (Finset.univ.biUnion fun p : Fin 3 × Fin 2 => slab p.1 p.2) = Finset.univ from slab_union] at e
  ihave H := (Entails.of_eq e) $$ H
  have e' : (bigSep Finset.univ fun p : Fin 3 × Fin 2 => (((c : Thread nD τ).loc cc0_scratch0) ↦[slab p.1 p.2]{fullShare} f : sProp 𝕄))
      ⊢ bigSep Finset.univ fun p : Fin 3 × Fin 2 => rAny (F := F) c p.1 p.2 := bigSep_mono fun p _ => rAny_intro c p.1 p.2 f
  iapply e'
  iexact H

theorem ring_in (m : (ℓ : Loc nD τ sig) → Buf (Elt F) ℓ) (c : Dev nD) : (bigSep Finset.univ fun p : Fin 3 × Fin 2 => rAny (F := F) c p.1 p.2)
    ⊢ iprop(∃ f : Buf (Elt F) ((c : Thread nD τ).loc cc0_scratch0), ((c : Thread nD τ).loc cc0_scratch0) ↦{fullShare} f : sProp 𝕄) := by
  haveI : Nonempty (Buf (Elt F) ((c : Thread nD τ).loc cc0_scratch0)) := ⟨fun _ => outF m (ix2 (0 : Fin 2048) (0 : Fin 2048))⟩
  unfold rAny
  refine (BI.bigSep_exists_pi (Y := fun _ : Fin 3 × Fin 2 => Buf (Elt F) ((c : Thread nD τ).loc cc0_scratch0)) Finset.univ
    (fun p f => ((c : Thread nD τ).loc cc0_scratch0) ↦[slab p.1 p.2]{fullShare} f)).trans ?_
  iintro ⟨%fs, H⟩
  ihave ⟨%g, _, H⟩ := (pointsTo_biUnion_join (Finset.univ : Finset (Fin 3 × Fin 2)) (fun p => slab p.1 p.2) fs (fs (0, 0))
    (fun p _ p' _ h => slab_apart p p' h)) $$ H
  iexists g
  ihave H := (Entails.of_eq (congrArg (fun S => ((c : Thread nD τ).loc cc0_scratch0) ↦[S]{fullShare} g) slab_union)) $$ H
  iexact H

theorem rReg_any (c : Dev nD) (s : Fin 3) (g : Fin 2) (X : Vec F S64x2048 .f32) : rReg (F := F) c s g X ⊢ rAny (F := F) c s g := by
  unfold rReg rAny
  iintro ⟨%f, _, H⟩
  iexists f
  iexact H

/-! ## The barrier's payloads -/

/-- Where transfer `j` lands on device `c`. -/
def landAt (c : Dev nD) (j : Tr) : sProp 𝕄 := match j with
  | .rs s g => rAny c s g
  | j => oAny c (rowOf j (frm j c)) j.len

theorem land_frm (c : Dev nD) (j : Tr) : land (F := F) (frm j c) j = landAt c j := by
  cases j with
  | rs s g => show rAny (dst _ (frm _ c)) s g = rAny c s g; rw [dst_frm]
  | ag g s => show oAny (dst _ (frm _ c)) _ _ = oAny c _ _; rw [dst_frm]
  | y g t => show oAny (dst _ (frm _ c)) _ _ = oAny c _ _; rw [dst_frm]
  | x g t => show oAny (dst _ (frm _ c)) _ _ = oAny c _ _; rw [dst_frm]

theorem land_all (c : Dev nD) : (bigSep Finset.univ fun k : Fin 4 => barPay (F := F) (sgn k c) k) = bigSep Finset.univ fun j : Tr => landAt (F := F) c j := by
  unfold barPay
  have e : ∀ k : Fin 4, (bigSep (Finset.univ.filter fun j : Tr => j.cls = k) fun j => land (F := F) (sgn k c) j)
      = bigSep (Finset.univ.filter fun j : Tr => j.cls = k) fun j => landAt (F := F) c j := fun k =>
    bigSep_congr fun j hj => by
      rw [← (Finset.mem_filter.mp hj).2]
      exact land_frm c j
  rw [bigSep_congr fun k _ => e k, ← bigSep_biUnion_eq Finset.univ (fun k => Finset.univ.filter fun j : Tr => j.cls = k) _ (by
    intro k _ k' _ h
    exact Finset.disjoint_filter.mpr fun j _ e e' => h (e.symm.trans e'))]
  congr 1

theorem listed_congr {I : Type} {Φ Ψ : I → sProp 𝕄} : ∀ (l : List I), (∀ i ∈ l, Φ i = Ψ i) → bigSepL l Φ = bigSepL l Ψ
  | [], _ => rfl
  | i :: l, h => by
    rw [bigSepL_cons, bigSepL_cons, h i List.mem_cons_self, listed_congr l fun j hj => h j (List.mem_cons_of_mem _ hj)]

theorem lands (c : Dev nD) : iprop((bigSep Finset.univ fun p : Fin 3 × Fin 2 => rAny (F := F) c p.1 p.2)
      ∗ bigSep Finset.univ fun j : Tr => oAny (F := F) c (rowOf j (frm j c)) j.len)
    ⊢ bigSep Finset.univ fun k : Fin 4 => barPay (F := F) (sgn k c) k := by
  rw [land_all, over_list, over_list, over_all, over_all, over_slabs]
  have e : bigSepL outTrs (fun j => oAny (F := F) c (rowOf j (frm j c)) j.len) = bigSepL outTrs (fun j => landAt (F := F) c j) := by
    refine listed_congr _ fun j hj => ?_
    have := (mem_outTrs j).mp hj
    cases j with
    | rs s g => exact absurd this (by simp [Tr.isRs])
    | ag g s => rfl
    | y g t => rfl
    | x g t => rfl
  rw [e]
  show _ ⊢ iprop(((rAny c 0 0 ∗ rAny c 1 0 ∗ rAny c 2 0) ∗ (rAny c 0 1 ∗ rAny c 1 1 ∗ rAny c 2 1)) ∗ bigSepL outTrs fun j => landAt (F := F) c j)
  iintro ⟨⟨A0, A1, A2, B0, B1, B2⟩, -, H⟩
  isplitr [H]
  · isplitl [A0 A1 A2]
    · isplitl [A0]
      · iassumption
      · isplitl [A1] <;> iassumption
    · isplitl [B0]
      · iassumption
      · isplitl [B1] <;> iassumption
  · iexact H

/-! ## Entering -/

theorem over_two (Φ : Fin 2 → sProp 𝕄) : bigSep Finset.univ Φ = iprop(Φ 0 ∗ Φ 1) := bigSep_univ_eq_bigSepL [0, 1] (by decide) (by decide) Φ

theorem oReg_any (c : Dev nD) (lo n : ℕ) (f : Buf (Elt F) ((c : Thread nD τ).loc cc0_stg2_0)) :
    (((c : Thread nD τ).loc cc0_stg2_0) ↦[rows lo n]{fullShare} f : sProp 𝕄) ⊢ oAny (F := F) c lo n := by
  unfold oAny
  iintro H
  iexists f
  iexact H

/-- The result's rows at whatever they hold, by pieces. -/
theorem out_out (c : Dev nD) : iprop(∃ f : Buf (Elt F) ((c : Thread nD τ).loc cc0_stg2_0), ((c : Thread nD τ).loc cc0_stg2_0) ↦{fullShare} f : sProp 𝕄)
    ⊢ iprop((oAny (F := F) c (ownRow 0 c) 64 ∗ oAny (F := F) c (ownRow 1 c) 64) ∗ bigSep Finset.univ fun j : Tr => oAny (F := F) c (rowOf j (frm j c)) j.len) := by
  iintro ⟨%f, H⟩
  ihave H := (Entails.of_eq (out_pieces c f)) $$ H
  icases H with ⟨H1, H2⟩
  isplitl [H1]
  · ihave H1 := (Entails.of_eq (over_two _)) $$ H1
    icases H1 with ⟨A, B⟩
    isplitl [A]
    · iapply (oReg_any c (ownRow 0 c) 64 f); iexact A
    · iapply (oReg_any c (ownRow 1 c) 64 f); iexact B
  · have e : (bigSep Finset.univ fun j : Tr => (((c : Thread nD τ).loc cc0_stg2_0) ↦[rows (rowOf j (frm j c)) j.len]{fullShare} f : sProp 𝕄))
        ⊢ bigSep Finset.univ fun j : Tr => oAny (F := F) c (rowOf j (frm j c)) j.len := bigSep_mono fun j _ => oReg_any c _ _ f
    iapply e
    iexact H2

/-- What is held at the start, resource by resource. -/
theorem start_list (c : Dev nD) : bs m c (mask 0)
    = iprop((((bigSepL startMisc (AM m c) ∗ (bigSepL allTrs (AT m c .tok))) ∗ (bigSepL allTrs (AT m c .sa))) ∗ (bigSepL allTrs (AT m c .rc)))
        ∗ (pReg m c (partRow 0 0 c) ∗ pReg m c (partRow 0 1 c))) := by
  rw [show mask 0 = flips startRes 0 from rfl, bs_takeL m startRes _ start_ok.1, start_ok.2, bs_zero, sep_emp_eq]
  unfold startRes
  rw [bigSepL_append, bigSepL_append, bigSepL_append, bigSepL_append, bigSepL_map, bigSepL_map, bigSepL_map, bigSepL_map]
  rfl

/-- What is held at the end. -/
theorem end_list (c : Dev nD) : bs m c (mask 187)
    = iprop((((bigSepL endMisc (AM m c) ∗ (bigSepL allTrs (AT m c .sv))) ∗ (bigSepL allTrs (AT m c .rv))) ∗ (bigSepL (rsTrs 0) (src m c) ∗ bigSepL (rsTrs 1) (src m c)))
        ∗ bigSepL outTrs (landed m c)) := by
  rw [bs_takeL m endRes _ end_ok.1, end_ok.2, bs_zero, sep_emp_eq]
  unfold endRes
  rw [bigSepL_append, bigSepL_append, bigSepL_append, bigSepL_append, bigSepL_map, bigSepL_map, bigSepL_map, bigSepL_map, bigSepL_map, bigSepL_append]
  rfl

theorem misc_start (c : Dev nD) : bigSepL startMisc (AM m c)
    = iprop(AM m c (.mine 0) ∗ AM m c (.mine 1) ∗ AM m c (.mine 2) ∗ AM m c (.mine 3)
      ∗ (cred (tallyAt (barCell c) () 4) ∗ atPos ER (barCell c) 0 ∅ 0)
      ∗ (dutyTok ER (resCell c) 0 0 ∗ atPos ER (resCell c) 0 ∅ 0 ∗ aReg m c
        ∗ ∃ f : Buf (Elt F) ((c : Thread nD τ).loc cc0_scratch1), ((c : Thread nD τ).loc cc0_scratch1) ↦{fullShare} f)
      ∗ (((c : Thread nD τ).loc cc0_stg0_0) ↦{fullShare.left} P m c) ∗ (((c : Thread nD τ).loc cc0_stg1_0) ↦{fullShare} γ m c)
      ∗ oAny c (ownRow 0 c) 64 ∗ oAny c (ownRow 1 c) 64) := rfl

theorem srcs_ring (c : Dev nD) (g : Fin 2) : bigSepL (rsTrs g) (src m c)
    = iprop(pReg m c (partRow 0 g c) ∗ rReg c 0 g (accX m g 1 c) ∗ rReg c 1 g (accX m g 2 c)) := rfl

theorem misc_end (c : Dev nD) : bigSepL endMisc (AM m c)
    = iprop(semVal (barCell c) 0 ∗ (semVal (resCell c) 0 ∗ kReg m c ∗ aReg m c)
      ∗ (((c : Thread nD τ).loc cc0_stg0_0) ↦{fullShare.left} P m c) ∗ (((c : Thread nD τ).loc cc0_stg1_0) ↦{fullShare} γ m c)
      ∗ oReg m c (ownRow 0 c) 64 fullShare ∗ oReg m c (ownRow 1 c) 64 fullShare ∗ rReg c 2 0 (accX m 0 3 c) ∗ rReg c 2 1 (accX m 1 3 c)) := rfl

theorem toks_list (c : Dev nD) : bigSepL allTrs (AT m c .tok)
    = iprop((bigSep Finset.univ fun j : Tr => dutyTok ER (sndCell c j) 0 0) ∗ (bigSep Finset.univ fun j : Tr => dutyTok ER (rcvCell (dst j c) j) 0 0)) := by
  rw [← over_list, ← bigSep_sep']
  rfl

theorem rcs_list (c : Dev nD) : bigSepL allTrs (AT m c .rc)
    = iprop((bigSep Finset.univ fun j : Tr => cred (tallyAt (rcvCell c j) () (amt j))) ∗ (bigSep Finset.univ fun j : Tr => atPos ER (rcvCell c j) 0 ∅ 0)) := by
  rw [← over_list, ← bigSep_sep']
  rfl

theorem sas_list (c : Dev nD) : bigSepL allTrs (AT m c .sa) = bigSep Finset.univ fun j : Tr => atPos ER (sndCell c j) 0 ∅ 0 := (over_list _).symm

theorem mines (c : Dev nD) : iprop((bigSep Finset.univ fun k : Fin 4 => dutyTok ER (barCell (sgn k c)) 0 k) ∗ bigSep Finset.univ fun k : Fin 4 => barPay (F := F) (sgn k c) k)
    = iprop(AM m c (.mine 0) ∗ AM m c (.mine 1) ∗ AM m c (.mine 2) ∗ AM m c (.mine 3)) := by
  rw [← bigSep_sep', over_four]
  rfl

/-- A device's start is the state before its first operation, and what its body leaves alone. -/
theorem enter (c : Dev nD) : iprop(Pe m K ∗ Ow (F := F) c 0 0 ∗ pays c ∗ marks c ∗ creds c ∗ bufs m c) ⊢ iprop(At m K c 0 ∗ kept m c) := by
  unfold At
  rw [start_list, misc_start, toks_list, rcs_list, sas_list]
  unfold pays marks creds bufs kept
  iintro ⟨HP, HO, ⟨Tb, Ts, Tr, Tk⟩, ⟨Ab, As, Ar, Ak⟩, ⟨Cb, Cr⟩, Bp, Bg, Bo, Br, Bk, Ba⟩
  ihave Bp := (part_cut m c).1 $$ Bp
  icases Bp with ⟨Bl, ⟨B0, B1⟩, Bx⟩
  ihave Ba := (resid_cut m c).1 $$ Ba
  icases Ba with ⟨Ba, Bz⟩
  ihave Bo := (out_out c) $$ Bo
  icases Bo with ⟨⟨O0, O1⟩, Bo⟩
  ihave Br := (ring_out c) $$ Br
  ihave Bd := (lands c) $$ [Br Bo]
  · isplitl [Br] <;> iassumption
  ihave M := (Entails.of_eq (mines m c)) $$ [Tb Bd]
  · isplitl [Tb] <;> iassumption
  icases M with ⟨M0, M1, M2, M3⟩
  isplitr [Bx Bz]
  · isplitl [HP]
    · iexact HP
    isplitl [HO]
    · iexact HO
    isplitr [B0 B1]
    · isplitr [Cr Ar]
      · isplitr [As]
        · isplitr [Ts Tr]
          · isplitl [M0]
            · iexact M0
            isplitl [M1]
            · iexact M1
            isplitl [M2]
            · iexact M2
            isplitl [M3]
            · iexact M3
            isplitl [Cb Ab]
            · isplitl [Cb]
              · iexact Cb
              · iexact Ab
            isplitl [Tk Ak Ba Bk]
            · isplitl [Tk]
              · iexact Tk
              isplitl [Ak]
              · iexact Ak
              isplitl [Ba]
              · iexact Ba
              · iexact Bk
            isplitl [Bl]
            · iexact Bl
            isplitl [Bg]
            · iexact Bg
            isplitl [O0]
            · iexact O0
            · iexact O1
          · isplitl [Ts]
            · iexact Ts
            · iexact Tr
        · iexact As
      · isplitl [Cr]
        · iexact Cr
        · iexact Ar
    · isplitl [B0]
      · iexact B0
      · iexact B1
  · isplitl [Bx]
    · iexact Bx
    · iexact Bz

/-! ## Leaving -/

theorem joins_are : ∀ i : Fin 38, ∃ j, prog[149 + i.val]? = some (.join j) := by decide +kernel

/-- After the last wait what has landed and what was sent are put together again. -/
theorem at_joins (c : Dev nD) : ∀ n : ℕ, n ≤ 38 → At m K c 149 ⊢ At m K c (149 + n)
  | 0, _ => .rfl
  | n + 1, h => by
    obtain ⟨j, hj⟩ := joins_are ⟨n, by omega⟩
    exact (at_joins c n (by omega)).trans (at_join m K hj)

theorem at_last (c : Dev nD) : At m K c 147 ⊢ At m K c 187 :=
  ((at_joinOwn m K (g := 0) rfl).trans (at_joinOwn m K (g := 1) rfl)).trans (at_joins m K c 38 le_rfl)

theorem counts : nsig 0 = 0 ∧ nsend 0 = 0 ∧ nsig 187 = 4 ∧ nsend 187 = 44 := by decide +kernel

/-- The result's rows, put together. -/
theorem out_in (c : Dev nD) : iprop((oReg m c (ownRow 0 c) 64 fullShare ∗ oReg m c (ownRow 1 c) 64 fullShare) ∗ bigSepL outTrs (landed m c))
    ⊢ (((c : Thread nD τ).loc cc0_stg2_0) ↦{fullShare} outF m : sProp 𝕄) := by
  rw [out_pieces, over_list, over_all]
  have e : bigSepL outTrs (landed m c) = bigSepL outTrs (fun j : Tr => (((c : Thread nD τ).loc cc0_stg2_0) ↦[rows (rowOf j (frm j c)) j.len]{fullShare} outF m : sProp 𝕄)) := by
    refine listed_congr _ fun j hj => ?_
    have := (mem_outTrs j).mp hj
    cases j with
    | rs s g => exact absurd this (by simp [Tr.isRs])
    | ag g s => rfl
    | y g t => rfl
    | x g t => rfl
  have er : ∀ g : Fin 2, iprop(emp) ⊢ bigSepL (rsTrs g) (fun j : Tr => (((c : Thread nD τ).loc cc0_stg2_0) ↦[rows (rowOf j (frm j c)) j.len]{fullShare} outF m : sProp 𝕄)) := by
    intro g
    have e0 : ∀ s : Fin 3, (((c : Thread nD τ).loc cc0_stg2_0) ↦[rows (rowOf (.rs s g) (frm (.rs s g) c)) (Tr.rs s g).len]{fullShare} outF m : sProp 𝕄) = iprop(emp) := fun s => by
      rw [show rows (rowOf (.rs s g) (frm (.rs s g) c)) (Tr.rs s g).len = ∅ from Finset.eq_empty_of_forall_notMem fun i hi => by
        rw [mem_rows] at hi
        have e : (Tr.rs s g).len = 0 := rfl
        omega]
      exact pointsTo_empty
    have e1 : bigSepL (rsTrs g) (fun j : Tr => (((c : Thread nD τ).loc cc0_stg2_0) ↦[rows (rowOf j (frm j c)) j.len]{fullShare} outF m : sProp 𝕄)) = bigSepL (rsTrs g) fun _ => iprop(emp) := by
      refine listed_congr _ fun j hj => ?_
      unfold rsTrs at hj
      obtain rfl | hj := List.mem_cons.mp hj
      · exact e0 _
      obtain rfl | hj := List.mem_cons.mp hj
      · exact e0 _
      obtain rfl := List.mem_singleton.mp hj
      exact e0 _
    rw [e1]
    show _ ⊢ iprop(emp ∗ emp ∗ emp)
    rw [sep_emp_eq, sep_emp_eq]
  rw [e]
  iintro ⟨⟨A, B⟩, H⟩
  isplitl [A B]
  · iapply (Entails.of_eq (over_two fun g => oReg m c (ownRow g c) 64 fullShare).symm)
    isplitl [A]
    · iexact A
    · iexact B
  · isplitr
    · isplitr
      · iapply (er 0); iempintro
      · iapply (er 1); iempintro
    · iexact H

/-- The values of a device's semaphores at the end. -/
def zeros (c : Dev nD) : sProp 𝕄 := iprop(semVal (barCell c) 0 ∗ bigSep Finset.univ fun r : Role => semVal (roleCell c r) 0)

theorem leave (c : Dev nD) : iprop(At m K c 147 ∗ kept m c) ⊢ iprop(Ow (F := F) c 4 44 ∗ zeros c ∗ bufsEnd m c) := by
  have h187 := at_last m K c
  refine (show iprop(At m K c 147 ∗ kept m c) ⊢ iprop(At m K c 187 ∗ kept m c) from by
    iintro ⟨H, Hk⟩
    isplitl [H]
    · iapply h187; iexact H
    · iexact Hk).trans ?_
  unfold At
  rw [end_list, misc_end, srcs_ring, srcs_ring, counts.2.2.1, counts.2.2.2]
  unfold zeros bufsEnd kept
  rw [over_roles]
  iintro ⟨⟨-, HO, ⟨⟨⟨⟨Zb, Zk, Bl, Bg, F0, F1, A0, A1⟩, Zs⟩, Zr⟩, ⟨S0, S1⟩⟩, Hl⟩, Bx, Bz⟩
  icases Zk with ⟨Zk, Kr, Ar⟩
  icases S0 with ⟨B0, R00, R10⟩
  icases S1 with ⟨B1, R01, R11⟩
  isplitl [HO]
  · iexact HO
  isplitl [Zb Zk Zs Zr]
  · isplitl [Zb]
    · iexact Zb
    isplitl [Zs]
    · iapply (Entails.of_eq (over_list _).symm); iexact Zs
    isplitl [Zr]
    · iapply (Entails.of_eq (over_list _).symm); iexact Zr
    · iexact Zk
  isplitl [Bl B0 B1 Bx]
  · iapply (part_cut m c).2
    isplitl [Bl]
    · iexact Bl
    isplitl [B0 B1]
    · isplitl [B0]
      · iexact B0
      · iexact B1
    · iexact Bx
  isplitl [Bg]
  · iexact Bg
  isplitl [F0 F1 Hl]
  · iapply (out_in m c)
    isplitl [F0 F1]
    · isplitl [F0]
      · iexact F0
      · iexact F1
    · iexact Hl
  isplitl [R00 R10 R01 R11 A0 A1]
  · iapply (ring_in m c)
    iapply (Entails.of_eq (over_slabs _).symm)
    isplitl [R00]
    · iapply (rReg_any c 0 0 _); iexact R00
    isplitl [R10]
    · iapply (rReg_any c 1 0 _); iexact R10
    isplitl [A0]
    · iapply (rReg_any c 2 0 _); iexact A0
    isplitl [R01]
    · iapply (rReg_any c 0 1 _); iexact R01
    isplitl [R11]
    · iapply (rReg_any c 1 1 _); iexact R11
    · iapply (rReg_any c 2 1 _); iexact A1
  isplitl [Kr]
  · iexists chunk m c
    iapply (show kReg m c ⊢ (((c : Thread nD τ).loc cc0_scratch1) ↦{fullShare} chunk m c : sProp 𝕄) from .rfl)
    iexact Kr
  · iapply (resid_cut m c).2
    isplitl [Ar]
    · iexact Ar
    · iexact Bz

end Cert.K7

end
-- ==== Proof.Run.lean ====
/-
# The run

Every device is launched with its buffers, its place in the protocol and the credit of what the others owe it; the body
is then walked at a symbolic device, and every device's result ends at the values of all rows.
-/
module

public import proofs.«01_k».proof.Proof.Enter
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Quiescent

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The proof data of the one grid point -/

/-- What a device holds beside its windows before its body -/
def Φ₀ (c : Dev nD) : sProp 𝕄 := iprop((∃ K : Dev nD × Option Role → ℕ, Pe m K) ∗ pays c ∗ marks c ∗ creds c
  ∗ (((c : Thread nD τ).loc main_arg1) ↦{fullShare} R m c)
  ∗ (∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f))
/-- and after it. -/
def Φ₁ (c : Dev nD) : sProp 𝕄 := iprop(zeros c
  ∗ (((c : Thread nD τ).loc main_arg1) ↦{fullShare} R m c)
  ∗ (∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => P m c
    | ⟨1, _⟩ => γ m c
    | ⟨2, _⟩ => outF m
  Φ t := match t with
    | ⟨0, _⟩ => Φ₀ m c
    | ⟨_ + 1, _⟩ => Φ₁ m c
  q _ := fullShare
  owed t := match t with
    | ⟨0, _⟩ => debt c 0 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 := iprop(Φ₀ m c ∗ (dats m ρ 0 c).owesAt () t0_0.castSucc
  ∗ (∃ d, stg c cc0_stg0_0 ((dats m ρ 0 c).before (0 : Fin 3) t0_0 d))
  ∗ (∃ d, stg c cc0_stg1_0 ((dats m ρ 0 c).before (1 : Fin 3) t0_0 d))
  ∗ (∃ d, stg c cc0_stg2_0 ((dats m ρ 0 c).before (2 : Fin 3) t0_0 d)))
def bodyPost (c : Dev nD) : sProp 𝕄 := iprop(Φ₁ m c ∗ (dats m ρ 0 c).owesAt () t0_0.succ
  ∗ stg c cc0_stg0_0 (P m c) ∗ stg c cc0_stg1_0 (γ m c) ∗ stg c cc0_stg2_0 (outF m))

/-- The state after the last operation, and what the body left alone, are what the pipeline takes back. -/
theorem leaves (K : Dev nD × Option Role → ℕ) (c : Dev nD) : iprop(At m K c 147 ∗ kept m c) ⊢ bodyPost m ρ c := by
  refine (leave m K c).trans ?_
  unfold bodyPost Φ₁ Dat.owesAt Pipeline.owesWithin Ow bufsEnd
  rw [show (dats m ρ 0 c).owed t0_0.succ = 0 from rfl, debt_end]
  iintro ⟨⟨%W, HO⟩, HZ, H0, H1, H2, HR, HK, HA⟩
  isplitl [HZ HR HK HA]
  · isplitl [HZ]; · iexact HZ
    isplitl [HA]; · iexact HA
    isplitl [HR]; · iexact HR
    iexact HK
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

/-- The body at a device, with what it leaves alone beside it. -/
theorem body_run (K : Dev nD × Option Role → ℕ) (c : Dev nD) : iprop(At m K c 0 ∗ kept m c)
    ⊢ wp frame (wpE (defs₀ (F := F)) 𝒱₀ c none) Set.univ (body (F := F)) (fun _ => bodyPost m ρ c) := by
  have hw : At m K c 0 ⊢ wp frame (wpE (defs₀ (F := F)) 𝒱₀ c none) Set.univ (body (F := F)) (fun _ => At m K c 147) := walk m K (Q := fun _ => At m K c 147) .rfl
  refine BIBase.Entails.trans ?_ ((wp_frame_r frame (wpE (defs₀ (F := F)) 𝒱₀ c none) Set.univ (R := kept m c)).trans (wp_mono frame (wpE (defs₀ (F := F)) 𝒱₀ c none) Set.univ fun _ => leaves m ρ K c))
  iintro ⟨H, Hk⟩
  isplitl [H]
  · iapply hw; iexact H
  · iexact Hk

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (body (F := F)) (fun _ => bodyPost m ρ c)
  unfold bodyPre Φ₀
  iintro ⟨⟨⟨%K, HP⟩, Hp, Hm, Hc, Ha, Hr, Hk⟩, Ho, ⟨%d0, %g0, %hg0, H0⟩, ⟨%d1, %g1, %hg1, H1⟩, ⟨%d2, %g2, %hg2, H2⟩⟩
  have h0 : g0 = P m c := by rw [hg0]; unfold Dat.before; rw [if_pos (fetch0_0 t0_0)]; rfl
  have h1 : g1 = γ m c := by rw [hg1]; unfold Dat.before; rw [if_pos (fetch0_1 t0_0)]; rfl
  subst h0 h1
  unfold Dat.owesAt Pipeline.owesWithin
  icases Ho with ⟨%W, %hW, HO⟩
  rw [show (dats m ρ 0 c).owed t0_0.castSucc = debt c 0 0 from rfl]
  iapply (body_run m ρ K c)
  iapply (enter m K c)
  unfold bufs Ow
  isplitl [HP]; · iexact HP
  isplitl [HO]; · iexists W; iexact HO
  isplitl [Hp]; · iexact Hp
  isplitl [Hm]; · iexact Hm
  isplitl [Hc]; · iexact Hc
  isplitl [H0]; · iexact H0
  isplitl [H1]; · iexact H1
  isplitl [H2]; · iexists g2; iexact H2
  isplitl [Hr]; · iexact Hr
  isplitl [Hk]; · iexact Hk
  iexact Ha

end Cert.K7

end
-- ==== Proof.Launching.lean ====
/-
# The launch

The protocol's cells are allocated for all devices at once, its tokens are dealt to the devices that spend them, the credit
of what every device owes is dealt to the devices that wait for it, and the program's run follows.
-/
module

public import proofs.«01_k».proof.Proof.Run
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Quiescent

@[expose] public section

noncomputable section

namespace Cert.K7

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The kernel's own semaphores. -/
abbrev osem : Role → SemLoc sig := fun r => .dma r.sem

theorem ownSemFacts : Pipeline.OwnSemFacts cfg0.spec osem := by decide +kernel
theorem share_eq (c : Dev nD) (w : Fin cfg0.W) : (dats m ρ 0 c).share w = fullShare := by unfold Dat.share; split <;> rfl

theorem roleCell_inj {c c' : Dev nD} {r r' : Role} (h : roleCell c r = roleCell c' r') : c = c' ∧ r = r' :=
  ⟨congrArg (fun g : GSem nD τ sig => g.1.1) h, sem_inj (SemLoc.dma.inj (congrArg Prod.snd h))⟩
theorem barCell_inj {c c' : Dev nD} (h : barCell c = barCell c') : c = c' := congrArg (fun g : GSem nD τ sig => g.1.1) h
theorem bar_ne_role {c c' : Dev nD} {r : Role} : barCell c ≠ roleCell c' r := fun h => by
  have h2 := congrArg Prod.snd h
  cases h2

theorem cellAt_inj : Function.Injective cellAt := by
  rintro ⟨c, r⟩ ⟨c', r'⟩ h
  cases r with
  | none => cases r' with
    | none => exact Prod.ext (barCell_inj h) rfl
    | some r' => exact absurd h bar_ne_role
  | some r => cases r' with
    | none => exact absurd h.symm bar_ne_role
    | some r' =>
      exact Prod.ext (roleCell_inj h).1 (congrArg some (roleCell_inj h).2)

def kCells : Finset (GSem nD τ sig) := Finset.univ.map ⟨cellAt, cellAt_inj⟩

/-- The duties of a device's cells. -/
def tokAt (p : Dev nD × (Fin 4 ⊕ Role)) : GSem nD τ sig × ℕ × Fin 4 := match p.2 with
  | .inl k => (barCell p.1, 0, k)
  | .inr r => (roleCell p.1 r, 0, 0)

theorem tokAt_inj : Function.Injective tokAt := by
  rintro ⟨c, x⟩ ⟨c', x'⟩ h
  have h1 := congrArg Prod.fst h
  cases x with
  | inl k => cases x' with
    | inl k' => exact Prod.ext (barCell_inj h1) (congrArg Sum.inl (congrArg (fun t : GSem nD τ sig × ℕ × Fin 4 => t.2.2) h))
    | inr r => exact absurd h1 bar_ne_role
  | inr r => cases x' with
    | inl k => exact absurd h1.symm bar_ne_role
    | inr r' =>
      exact Prod.ext (roleCell_inj h1).1 (congrArg Sum.inr (roleCell_inj h1).2)

def kToks : Finset (GSem nD τ sig × ℕ × Fin 4) := Finset.univ.map ⟨tokAt, tokAt_inj⟩

def u₀ : UU := (initOf (Pipeline.cells cfgs cellOf_inj) (Pipeline.launchToks cfgs cellOf_inj), initOf kCells kToks)

/-- The tokens of device `c`'s own cells. -/
def toks (c : Dev nD) : sProp 𝕄 := iprop((bigSep Finset.univ fun k : Fin 4 => dutyTok ER (barCell c) 0 k)
  ∗ (bigSep Finset.univ fun j : Tr => dutyTok ER (sndCell c j) 0 0)
  ∗ (bigSep Finset.univ fun j : Tr => dutyTok ER (rcvCell c j) 0 0) ∗ dutyTok ER (resCell c) 0 0)

def G (c : Dev nD) : sProp 𝕄 :=
  iprop((bigSep Finset.univ fun x : Option Role => roundState ER (Rd m) (cellAt (c, x)) 0)
    ∗ (bigSep Finset.univ fun x : Option Role => atPos ER (cellAt (c, x)) 0 ∅ 0)
    ∗ (bigSep Finset.univ fun x : Option Role => reached ER (cellAt (c, x)) 0) ∗ toks c)
def G' (c : Dev nD) : sProp 𝕄 := iprop((∃ K : Dev nD × Option Role → ℕ, recs m K) ∗ pays c ∗ marks c)

theorem fund_all : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun x : Option Role => Φ (cellAt (c, x)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_univ_sum, over_roles]; rfl
  iintro HX
  imod (Rounds.fund ER (Rd m) kCells kToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem unscopedSems0_eq (c : Dev nD) : (unscopedSems0 c : sProp 𝕄) = semVal (barCell c) 0 := by
  unfold unscopedSems0
  rw [bigSep_eq_bigSepL_of_eq [SemLoc.reg barSem] (by decide +kernel) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun r : Role => semVal (roleCell c r) 0 := rfl

theorem over_opt (Φ : Option Role → sProp 𝕄) : bigSep Finset.univ Φ = iprop(Φ none ∗ bigSep Finset.univ fun r : Role => Φ (some r)) := by
  rw [over_cells, over_roles]

/-- A device's cells at zero, with their round states, are invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Option Role => iprop(∃ κ : ℕ, cellInv ER (Rd m) κ (cellAt (c, x))))
          ∗ (bigSep Finset.univ fun x : Option Role => atPos ER (cellAt (c, x)) 0 ∅ 0)
          ∗ (bigSep Finset.univ fun x : Option Role => reached ER (cellAt (c, x)) 0) ∗ toks c) := by
  unfold G
  rw [ownSems0_eq, unscopedSems0_eq]
  iintro ⟨Ho, Hu, Hst, Hat, Hr, Htok⟩
  imod (show iprop((bigSep Finset.univ fun x : Option Role => semVal (cellAt (c, x)) 0) ∗ bigSep Finset.univ fun x : Option Role => roundState ER (Rd m) (cellAt (c, x)) 0)
      ⊢ (|={Set.univ}=> bigSep Finset.univ fun x : Option Role => iprop(∃ κ : ℕ, cellInv ER (Rd m) κ (cellAt (c, x))) : sProp 𝕄) from by
        rw [← bigSep_sep']
        exact (bigSep_mono fun x _ => (Rounds.body_intro ER (Rd m) (cellAt (c, x))).trans inv_alloc).trans (bigSep_fupd _ _)) $$ [Ho Hu Hst] with Hinv
  · isplitr [Hst]
    · iapply (Entails.of_eq (over_opt fun x => semVal (cellAt (c, x)) 0).symm)
      isplitl [Hu]
      · iexact Hu
      · iexact Ho
    · iexact Hst
  imodintro
  isplitl [Hinv]; · iexact Hinv
  isplitl [Hat]; · iexact Hat
  isplitl [Hr]; · iexact Hr
  iexact Htok

def sgnEquiv (k : Fin 4) : Dev nD ≃ Dev nD := ⟨sgn k, sgn' k, sgn'_sgn k, sgn_sgn' k⟩
def dstEquiv (j : Tr) : Dev nD ≃ Dev nD := ⟨dst j, frm j, frm_dst j, dst_frm j⟩

/-- The barrier's and the receive cells' tokens, dealt to the devices that spend them. -/
theorem toks_around : (bigSep Finset.univ fun c : Dev nD => (toks c : sProp 𝕄)) ⊢ bigSep Finset.univ fun c : Dev nD => pays c := by
  have eb : (bigSep Finset.univ fun c : Dev nD => bigSep Finset.univ fun k : Fin 4 => (dutyTok ER (barCell c) 0 k : sProp 𝕄))
      = bigSep Finset.univ fun c : Dev nD => bigSep Finset.univ fun k : Fin 4 => dutyTok ER (barCell (sgn k c)) 0 k := by
    rw [bigSep_univ_comm, bigSep_univ_comm fun (c : Dev nD) (k : Fin 4) => (dutyTok ER (barCell (sgn k c)) 0 k : sProp 𝕄)]
    exact bigSep_congr fun k _ => bigSep_univ_equiv (sgnEquiv k) (fun c : Dev nD => (dutyTok ER (barCell c) 0 k : sProp 𝕄))
  have er : (bigSep Finset.univ fun c : Dev nD => bigSep Finset.univ fun j : Tr => (dutyTok ER (rcvCell c j) 0 0 : sProp 𝕄))
      = bigSep Finset.univ fun c : Dev nD => bigSep Finset.univ fun j : Tr => dutyTok ER (rcvCell (dst j c) j) 0 0 := by
    rw [bigSep_univ_comm, bigSep_univ_comm fun (c : Dev nD) (j : Tr) => (dutyTok ER (rcvCell (dst j c) j) 0 0 : sProp 𝕄)]
    exact bigSep_congr fun j _ => bigSep_univ_equiv (dstEquiv j) (fun c : Dev nD => (dutyTok ER (rcvCell c j) 0 0 : sProp 𝕄))
  unfold toks pays
  rw [bigSep_sep', bigSep_sep', bigSep_sep', bigSep_sep', bigSep_sep', bigSep_sep', eb, er]

theorem with_persistent {I : Type} [DecidableEq I] {S : Finset I} {X : sProp 𝕄} [BI.Persistent X] (Φ : I → sProp 𝕄) :
    iprop(X ∗ bigSep S Φ) ⊢ bigSep S fun i => iprop(X ∗ Φ i) :=
  (sep_mono_left (BI.bigSep_of_persistent S X)).trans (by rw [← bigSep_sep'])

theorem marks_intro (c : Dev nD) : (bigSep Finset.univ fun x : Option Role => (atPos ER (cellAt (c, x)) 0 ∅ 0 : sProp 𝕄)) ⊢ marks c :=
  Entails.of_eq (over_cells fun x => atPos ER (cellAt (c, x)) 0 ∅ 0)

theorem share_intro (K : Dev nD × Option Role → ℕ) (c : Dev nD) : iprop(recs m K ∗ pays c ∗ marks c) ⊢ G' m c := by
  unfold G'
  iintro ⟨Hr, H⟩
  isplitl [Hr]
  · iexists K; iexact Hr
  · iexact H

theorem regroup :
    (bigSep Finset.univ fun c : Dev nD => iprop((bigSep Finset.univ fun x : Option Role => iprop(∃ κ : ℕ, cellInv ER (Rd m) κ (cellAt (c, x))))
          ∗ (bigSep Finset.univ fun x : Option Role => atPos ER (cellAt (c, x)) 0 ∅ 0)
          ∗ (bigSep Finset.univ fun x : Option Role => reached ER (cellAt (c, x)) 0) ∗ toks c) : sProp 𝕄)
      ⊢ bigSep Finset.univ (G' m) := by
  rw [bigSep_sep', bigSep_sep', bigSep_sep', ← bigSep_univ_prod (fun p : Dev nD × Option Role => iprop(∃ κ : ℕ, cellInv ER (Rd m) κ (cellAt p))),
    ← bigSep_univ_prod (fun p : Dev nD × Option Role => (reached ER (cellAt p) 0 : sProp 𝕄))]
  iintro ⟨HI, Hat, HR, Htok⟩
  ihave HK := (BI.bigSep_exists_pi Finset.univ (fun (p : Dev nD × Option Role) (κ : ℕ) => (cellInv ER (Rd m) κ (cellAt p) : sProp 𝕄))) $$ HI
  icases HK with ⟨%K, HI⟩
  ihave Hrec := (show iprop((bigSep Finset.univ fun p : Dev nD × Option Role => (cellInv ER (Rd m) (K p) (cellAt p) : sProp 𝕄)) ∗ bigSep Finset.univ fun p => reached ER (cellAt p) 0) ⊢ recs m K from by
    unfold recs; rw [bigSep_sep']) $$ [HI HR]
  · isplitl [HI] <;> iassumption
  ihave Hp := (toks_around (F := F)) $$ Htok
  ihave Hm := (show (bigSep Finset.univ fun c : Dev nD => bigSep Finset.univ fun x : Option Role => (atPos ER (cellAt (c, x)) 0 ∅ 0 : sProp 𝕄)) ⊢ bigSep Finset.univ fun c : Dev nD => marks c from
    bigSep_mono fun c _ => marks_intro c) $$ Hat
  ihave H := (with_persistent (X := recs m K) (fun c : Dev nD => iprop(pays c ∗ marks c))) $$ [Hrec Hp Hm]
  · isplitl [Hrec]
    · iexact Hrec
    · iapply (Entails.of_eq (bigSep_sep' Finset.univ (fun c : Dev nD => pays c) (fun c => marks c)).symm)
      isplitl [Hp] <;> iassumption
  have e : (bigSep Finset.univ fun c : Dev nD => iprop(recs m K ∗ pays c ∗ marks c)) ⊢ bigSep Finset.univ (G' m) := bigSep_mono fun c _ => share_intro m K c
  iapply e
  iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_sums {I : Type} [DecidableEq I] (S : Finset I) (D : I → Dev nD → CellTallies nD τ sig Unit) (c : Dev nD) :
    (Pipeline.launchCred (fun d => ∑ i ∈ S, D i d) c : sProp 𝕄) = bigSep S fun i => Pipeline.launchCred (D i) c := by
  induction S using Finset.induction_on with
  | empty => simp only [Finset.sum_empty]; rw [Pipeline.launchCred_zero]; rfl
  | insert i S hi ih =>
    rw [bigSep_insert hi, ← ih, show (fun d => ∑ i ∈ insert i S, D i d) = fun d => D i d + ∑ i ∈ S, D i d from funext fun d => Finset.sum_insert hi]
    exact Pipeline.launchCred_add _ _ c

theorem cred_four (c : Dev nD) : (bigSep Finset.univ fun _ : Fin 4 => (cred (tallyAt (barCell c) () 1) : sProp 𝕄)) ⊢ cred (tallyAt (barCell c) () 4) := by
  have e : (tallyAt (barCell c) () 4 : CellTallies nD τ sig Unit)
      = tallyAt (barCell c) () 1 + (tallyAt (barCell c) () 1 + (tallyAt (barCell c) () 1 + tallyAt (barCell c) () 1)) := by
    rw [show (4 : ℕ) = 1 + (1 + (1 + 1)) from rfl, tallyAt_add, tallyAt_add, tallyAt_add]
  rw [over_four, e]
  iintro ⟨A, B, C, D⟩
  iapply (cred_add _ _).2
  isplitl [A]; · iexact A
  iapply (cred_add _ _).2
  isplitl [B]; · iexact B
  iapply (cred_add _ _).2
  isplitl [C] <;> iassumption

/-- What the devices owe at launch is the credit of what each waits for. -/
theorem creds_intro (c : Dev nD) : (Pipeline.launchCred (fun d => debt d 0 0) c : sProp 𝕄) ⊢ creds c := by
  have e : (fun d : Dev nD => debt d 0 0) = fun d => (∑ j ∈ (Finset.univ : Finset Tr), tallyAt (rcvCell (dst j d) j) () (amt j))
      + ∑ k ∈ (Finset.univ : Finset (Fin 4)), tallyAt (barCell (sgn k d)) () 1 := by
    funext d
    unfold debt
    rw [Finset.filter_true_of_mem fun _ _ => Nat.zero_le _, Finset.filter_true_of_mem fun _ _ => Nat.zero_le _]
  rw [e, Pipeline.launchCred_add, cred_sums Finset.univ (fun (j : Tr) d => tallyAt (rcvCell (dst j d) j) () (amt j)),
    cred_sums Finset.univ (fun (k : Fin 4) d => tallyAt (barCell (sgn k d)) () 1)]
  unfold creds
  have hb : (bigSep Finset.univ fun k : Fin 4 => (Pipeline.launchCred (fun d => tallyAt (barCell (sgn k d)) () 1) c : sProp 𝕄)) ⊢ cred (tallyAt (barCell c) () 4) :=
    (bigSep_mono fun k _ => Pipeline.launchCred_tallyAt (.reg barSem) (sgn k) (sgn' k) (sgn_sgn' k) (sgn'_sgn k) () 1 c).trans (cred_four c)
  have hr : (bigSep Finset.univ fun j : Tr => (Pipeline.launchCred (fun d => tallyAt (rcvCell (dst j d) j) () (amt j)) c : sProp 𝕄))
      ⊢ bigSep Finset.univ fun j : Tr => cred (tallyAt (rcvCell c j) () (amt j)) :=
    bigSep_mono fun j _ => Pipeline.launchCred_tallyAt (.dma (rcvSem j)) (dst j) (frm j) (dst_frm j) (frm_dst j) () (amt j) c
  iintro ⟨Hr, Hb⟩
  isplitl [Hb]
  · iapply hb; iexact Hb
  · iapply hr; iexact Hr

/-! ## The launch theorem's side conditions -/

def start (c : Dev nD) : sProp 𝕄 := iprop((∃ K : Dev nD × Option Role → ℕ, Pe m K) ∗ pays c ∗ marks c ∗ creds c ∗ (((c : Thread nD τ).loc main_arg1) ↦{fullShare} R m c))

theorem start_intro (c : Dev nD) :
    iprop(Pipeline.unscopedRestP Pipeline.Prefetch.none cfg0.spec c (fun b => m ((c : Thread nD τ).loc b)) ∗ levAts L lv
        ∗ Pipeline.launchCred (fun d => debt d 0 0) c ∗ prngReg c (ρ c) ∗ G' m c)
      ⊢ |={Set.univ}=> iprop(start m c ∗ emp) := by
  rw [Pipeline.unscopedRestP_none, unscopedRest0_eq]
  unfold G' start Pe
  iintro ⟨Ha, Hlev, Hcr, -, ⟨%K, HR⟩, Hp, Hm⟩
  ihave Hc := (creds_intro (F := F) c) $$ Hcr
  imodintro
  isplitl
  · isplitl [HR Hlev]
    · iexists K
      isplitl [HR] <;> iassumption
    isplitl [Hp]; · iexact Hp
    isplitl [Hm]; · iexact Hm
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨H1, H2, H3, H4, H5⟩, -, H6, H7⟩
  isplitl [H1]; · iexact H1
  isplitl [H2]; · iexact H2
  isplitl [H3]; · iexact H3
  isplitl [H4]; · iexact H4
  isplitl [H5]; · iexact H5
  isplitl [H6] <;> iassumption

def finish (c : Dev nD) : sProp 𝕄 := iprop(unscopedSems0 c ∗ (((c : Thread nD τ).loc main_arg1) ↦{fullShare} R m c))

theorem phi1_exit (c : Dev nD) :
    (dats m ρ 0 c).Φ (Fin.last cfg0.N) ⊢ iprop(finish m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ zeros finish
  rw [unscopedSems0_eq]
  iintro ⟨⟨Hb, Hz⟩, Ha, Hr, Hk⟩
  isplitl [Hb Ha]
  · isplitl [Hb] <;> iassumption
  isplitl [Hz]; · iexact Hz
  isplitl [Hr] <;> iassumption

theorem mayWait_stage (c : Dev nD) (q : DmaSem sig) (hq : slv (.dma q) = 0) (O : CellTallies nD τ sig Unit) (hO : O = debt c 0 0 ∨ O = 0) :
    (levAts L lv : sProp 𝕄) ⊢ MayWait (c : Thread nD τ) (.dma q) () O := by
  rcases hO with rfl | rfl
  · exact mayWait c (.dma q) 0 0 (by omega) (.inl hq)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = R m c

set_option maxRecDepth 65536 in
/-- On the mesh of 16 devices, for any float values and from any memory with zero counters: every weakly fair execution
    terminates, and at its end each device's result array holds the computed values, its inputs what they held, and every
    semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt d 0 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = R m c)
    (hY := fun c s' => by
      unfold finish
      iintro ⟨⟨Hu, Ha⟩, -, HSI⟩
      icombine HSI Ha gives %h0
      imod (Pipeline.unscopedSems0_read (X := unscopedSems0 c) (c := c) fupd_intro s') $$ [Hu HSI] with ⟨%h1, HSI⟩
      · isplitl [Hu] <;> iassumption
      imodintro
      isplitr; · ipureintro; exact ⟨h1, Buf.eq_of_forall_mem_univ h0⟩
      iexact HSI)
    (hQ := fun _ h hs => ⟨fun c => ⟨fun w => (h c).1 w, (h c).2.2.2⟩, sem_eq_zero hs fun c => (h c).2.2.1⟩)

end Cert.K7

end
-- ==== Proof.Result.lean ====
/-
# The arrays after the run

What the run leaves, read back: the result's array holds the same rows on every device, and the arguments are unchanged.
-/
module

public import proofs.«01_k».proof.Proof.Launching
public import Idealize.ShloMosaic.Lib.Pipeline.ValueKit

@[expose] public section

noncomputable section

namespace Cert.K7

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The result's array, which the one grid point writes whole, holds the whole result. -/
theorem final_out (c : Dev nD) : finalA m ρ c 2 = outF m := by
  refine (dats m ρ 0 c).arrAt_eq_of_after_last 2 t0_0 (by decide +kernel) (outF m) fun j => ?_
  exact congrArg (outF m) (funext fun a => Fin.ext rfl)

/-- After the run every device holds the whole result, its arguments as they were, and every semaphore at zero. -/
theorem run_result :
    θ_run defs (onTc (τ := τ) (main (F := F))) (s₀ m ρ) fun r =>
      (∀ c : Dev nD, r.2.mem (c.tc.loc main_v1) = outF m ∧ r.2.mem (c.tc.loc main_arg0) = m (c.tc.loc main_arg0)
        ∧ r.2.mem (c.tc.loc main_arg1) = m (c.tc.loc main_arg1) ∧ r.2.mem (c.tc.loc main_arg2) = m (c.tc.loc main_arg2))
        ∧ r.2.sem = fun _ => 0 :=
  (θ_run defs _ _).mono (fun r h => ⟨fun c => ⟨((h.1 c).1 2).trans (final_out m ρ c),
      ((h.1 c).1 0).trans ((dats m ρ 0 c).arrAt_in 0 rfl _), (h.1 c).2, ((h.1 c).1 1).trans ((dats m ρ 0 c).arrAt_in 1 rfl _)⟩, h.2⟩)
    (run_main m ρ)

end Cert.K7

end
-- ==== Proof.Value.lean ====
/-
# The reference's value

At the ideal instance: the sum of four terms from any one of them around, the quotient by a root as a product with a reciprocal
root, and the reference's result at an element.
-/
module

public import proofs.«01_k».proof.Proof.Gen.ReferenceIdeal
public import Idealize.ShloMosaic.Lib.Pointwise

@[expose] public section

noncomputable section

namespace Cert.K7

open Cert.ReferenceIdeal Cert.ReferenceIdeal.Gen
open Idealize.ShloMosaic
open scoped BigOperators

/-! ## Arithmetic on the extended reals -/

/-- Four terms added up from any one of them, around, are their sum. -/
theorem sum_round (f : Fin 4 → EReal) (z : Fin 4) : f (z + 1) + f (z + 2) + f (z + 3) + f z = ∑ k, f k := by
  rw [Fin.sum_univ_four]
  match z with
  | 0 => show f 1 + f 2 + f 3 + f 0 = _; ac_rfl
  | 1 => show f 2 + f 3 + f 0 + f 1 = _; ac_rfl
  | 2 => show f 3 + f 0 + f 1 + f 2 = _; ac_rfl
  | 3 => rfl

/-- Over a positive number, the quotient by the root is the product with the reciprocal root. -/
theorem div_sqrt (y : EReal) {x : EReal} (hx : 0 < x) : Ideal.div y (Ideal.sqrt x) = y * Ideal.rsqrt x := by
  induction x with
  | bot => exact absurd hx (by simp)
  | top => simp [Ideal.div]
  | coe r =>
    have hr : 0 < r := by exact_mod_cast hx
    have hs : ((Real.sqrt r : ℝ) : EReal) ≠ 0 := by exact_mod_cast (Real.sqrt_pos.mpr hr).ne'
    rw [Ideal.sqrt_coe, Ideal.rsqrt_coe, if_neg hr.not_gt, if_neg hr.not_gt, if_neg hr.ne']
    unfold Ideal.div
    rw [if_neg hs, EReal.coe_inv]

/-- A square is not negative. -/
theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- The row length, as the programs write it. -/
theorem len_eq : Ideal.ofBits .f32 0x45000000#32 = ((2048 : ℝ) : EReal) := by
  simp [Ideal.ofBits, Ideal.ieee, -EReal.coe_mul]; norm_num

/-- The constant under the root is positive. -/
theorem eps_pos : 0 < Ideal.ofBits .f32 0x358637BD#32 := by
  have : Ideal.ofBits .f32 0x358637BD#32 = (((8796093 : ℝ) * (2 : ℝ) ^ (-43 : ℤ) : ℝ) : EReal) := by
    simp [Ideal.ofBits, Ideal.ieee, -EReal.coe_mul]
  rw [this]
  exact_mod_cast (by positivity : (0 : ℝ) < (8796093 : ℝ) * (2 : ℝ) ^ (-43 : ℤ))

/-- A mean square plus the constant is positive. -/
theorem mean_pos {s : EReal} (hs : 0 ≤ s) : 0 < Ideal.div s (Ideal.ofBits .f32 0x45000000#32) + Ideal.ofBits .f32 0x358637BD#32 := by
  have h : 0 ≤ Ideal.div s (Ideal.ofBits .f32 0x45000000#32) := by
    rw [len_eq]
    unfold Ideal.div
    rw [if_neg (by norm_num), ← EReal.coe_inv]
    exact mul_nonneg hs (by exact_mod_cast (by norm_num : (0 : ℝ) ≤ (2048 : ℝ)⁻¹))
  exact lt_of_lt_of_le eps_pos (le_add_of_nonneg_left h)

/-! ## The reference at an element -/

/-- The sum over the devices along z, plus the residual. -/
def total (A : S4x2048x2048.Idx → EReal) (B : S2048x2048.Idx → EReal) (r k : Fin 2048) : EReal :=
  (∑ z : Fin 4, A (ix3 z r k)) + B (ix2 r k)

/-- What is under the root of row `r`: the mean square plus the constant. -/
def radicand (A : S4x2048x2048.Idx → EReal) (B : S2048x2048.Idx → EReal) (r : Fin 2048) : EReal :=
  Ideal.div (∑ k, total A B r k * total A B r k) (Ideal.ofBits .f32 0x45000000#32) + Ideal.ofBits .f32 0x358637BD#32

/-- It is positive. -/
theorem radicand_pos (A : S4x2048x2048.Idx → EReal) (B : S2048x2048.Idx → EReal) (r : Fin 2048) : 0 < radicand A B r :=
  mean_pos (Finset.sum_nonneg fun k _ => sq_nonneg' _)

/-- The reference's sum over z plus the residual. -/
def refSum (A : FVec Ideal S4x2048x2048 .f32) (B : FVec Ideal S2048x2048 .f32) : FVec Ideal S2048x2048 .f32 :=
  addf (Host.reduceAdd A (constant S_ .f32 0x00000000#32) reducesTo_S4x2048x2048_S2048x2048_d0 h_S_) B

/-- The reference's result. -/
def refOut (A : FVec Ideal S4x2048x2048 .f32) (B : FVec Ideal S2048x2048 .f32) (w : FVec Ideal S2048 .f32) : FVec Ideal S2048x2048 .f32 :=
  mulf (Host.divf (refSum A B) (broadcastInDim S2048x2048 ![0, 1] bcast_S2048x1_S2048x2048_0_1 (Host.sqrt (addf (Host.divf
    (broadcastInDim S2048x1 ![0] bcast_S2048_S2048x1_0 (Host.reduceAdd (mulf (refSum A B) (refSum A B)) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))))))
    (broadcastInDim S2048x2048 ![0, 1] bcast_S1x2048_S2048x2048_0_1 (broadcastInDim S1x2048 ![1] bcast_S2048_S1x2048_1 w))

/-- The reference's sum at an element. -/
theorem refSum_apply (A : FVec Ideal S4x2048x2048 .f32) (B : FVec Ideal S2048x2048 .f32) (r k : Fin 2048) :
    refSum A B (ix2 r k) = total A B r k := by
  unfold refSum total
  pointwise

/-- The reference's result at an element. -/
theorem refOut_apply (A : FVec Ideal S4x2048x2048 .f32) (B : FVec Ideal S2048x2048 .f32) (w : FVec Ideal S2048 .f32) (r k : Fin 2048) :
    refOut A B w (ix2 r k) = Ideal.div (total A B r k) (Ideal.sqrt (radicand A B r)) * w (ix1 k) := by
  unfold refOut radicand
  pointwise
  simp only [refSum_apply]

end Cert.K7

end
-- ==== Proof.Agree.lean ====
/-
# The result is the reference's

On each row the ring's running sum is the sum over the four devices along z, whatever device it started from; so the block a
device normalizes holds the reference's rows, and the whole result is the reference's.
-/
module

public import proofs.«01_k».proof.Proof.Contents
public import proofs.«01_k».proof.Proof.Value
public import Idealize.ShloMosaic.Lib.Layout

@[expose] public section

noncomputable section

namespace Cert.K7

open Cert.KernelIdeal Cert.KernelIdeal.Gen
open Idealize.ShloMosaic Idealize.ShloMosaic.TcCoe
open scoped BigOperators

/-! ## A normalized block at an element -/

/-- The normalization at an element: the sum over the root of the mean square, times the scale. -/
theorem nrm_apply (a r : Vec Ideal S64x2048 .f32) (w : Vec Ideal S2048 .f32) (i : Fin 64) (k : Fin 2048) :
    nrm a r w (ix2 i k) = (a (ix2 i k) + r (ix2 i k))
      * Ideal.rsqrt (Ideal.div (∑ l : Fin 2048, (a (ix2 i l) + r (ix2 i l)) * (a (ix2 i l) + r (ix2 i l))) (Ideal.ofBits .f32 0x45000000#32)
          + Ideal.ofBits .f32 0x358637BD#32) * w (ix1 k) := by
  unfold nrm
  pointwise [k0_pay4]

/-! ## The devices' arguments as the whole arrays' blocks -/

variable (m : (ℓ : Loc nD τ sig) → Buf (Elt Ideal) ℓ)
variable (A : Cert.ReferenceIdeal.S4x2048x2048.Idx → EReal) (B : S2048x2048.Idx → EReal) (w : S2048.Idx → EReal)

/-- The devices hold their blocks of the partial sums, and the whole residual and scale. -/
def Shards : Prop := ∀ c : Dev nD,
  m ((c.tc : Thread nD τ).loc main_arg0) = Layout.blockN ⟨3, ![1, 2048, 2048]⟩ ⟨3, ![4, 2048, 2048]⟩ (Layout.meshBlock [2, 2, 4] ![[2], [], []] c) A
  ∧ m ((c.tc : Thread nD τ).loc main_arg1) = B ∧ m ((c.tc : Thread nD τ).loc main_arg2) = w

/-- A device's place along z. -/
def zOf (c : Dev nD) : Fin 4 := ⟨c.val % 4, Nat.mod_lt _ (by decide)⟩

variable {m A B w}

/-- A device's staged partial sums are its block of the whole array. -/
theorem P_apply (h : Shards m A B w) (c : Dev nD) (r k : Fin 2048) : P m c (ValueIdx.ix3 (0 : Fin 1) r k) = A (ix3 (zOf c) r k) := by
  have e : P m c (ValueIdx.ix3 (0 : Fin 1) r k) = m ((c.tc : Thread nD τ).loc main_arg0) (ValueIdx.ix3 (0 : Fin 1) r k) := by
    show m ((c.tc : Thread nD τ).loc main_arg0) _ = _
    refine congrArg (m ((c.tc : Thread nD τ).loc main_arg0)) (funext fun a => Fin.ext ?_)
    match a with
    | ⟨0, _⟩ => rfl
    | ⟨1, _⟩ => show 0 + 1 * r.val = r.val; omega
    | ⟨2, _⟩ => show 0 + 1 * k.val = k.val; omega
  rw [e, (h c).1, Layout.blockN_apply]
  refine congrArg A (funext fun a => Fin.ext ?_)
  match a with
  | ⟨0, _⟩ => show (c.val / 1 % 4 * 1 + 0) * 1 + 0 = c.val % 4; omega
  | ⟨1, _⟩ => show 0 * 2048 + r.val = r.val; omega
  | ⟨2, _⟩ => show 0 * 2048 + k.val = k.val; omega

/-- A device's staged scale is the whole scale. -/
theorem γ_eq (h : Shards m A B w) (c : Dev nD) : γ m c = w := by
  rw [← (h c).2.2]
  funext j
  refine congrArg (m ((c.tc : Thread nD τ).loc main_arg2)) (funext fun a => Fin.ext ?_)
  match a with
  | ⟨0, _⟩ => show 0 + 1 * (j 0).val = (j 0).val; omega

/-! ## A device's own rows -/

theorem zOf_left (c : Dev nD) : zOf (left c) = zOf c + 3 := by revert c; decide +kernel

/-- The rows step `t` of the ring takes are the own rows of the device `3 - t` places to the right. -/
theorem partRow_chain (g : Fin 2) (c : Dev nD) :
    partRow 0 g (left (left (left c))) = ownRow g c ∧ partRow 1 g (left (left c)) = ownRow g c ∧ partRow 2 g (left c) = ownRow g c
      ∧ partRow 3 g c = ownRow g c := by revert g c; decide +kernel

/-- Element `(i, k)` of what a step takes, at a row given by an equation. -/
theorem partX_apply (h : Shards m A B w) {g : Fin 2} {t : ℕ} {c : Dev nD} {z : Fin 4} {r : ℕ} (hz : zOf c = z) (hr : partRow t g c = r)
    (i : Fin 64) (k : Fin 2048) (hi : r + i.val < 2048) : partX m g t c (ix2 i k) = A (ix3 z (⟨r + i.val, hi⟩ : Fin 2048) k) := by
  subst hz hr
  exact P_apply h c _ k

/-- The finished running sum is the sum over the devices along z. -/
theorem accX_apply (h : Shards m A B w) (g : Fin 2) (c : Dev nD) (i : Fin 64) (k : Fin 2048) (hi : ownRow g c + i.val < 2048) :
    accX m g 3 c (ix2 i k) = ∑ z : Fin 4, A (ix3 z (⟨ownRow g c + i.val, hi⟩ : Fin 2048) k) := by
  obtain ⟨h0, h1, h2, h3⟩ := partRow_chain g c
  rw [← sum_round (fun z => A (ix3 z (⟨ownRow g c + i.val, hi⟩ : Fin 2048) k)) (zOf c)]
  have z1 : zOf (left c) = zOf c + 3 := zOf_left c
  have z2 : zOf (left (left c)) = zOf c + 2 := by rw [zOf_left, z1, add_assoc]; rfl
  have z3 : zOf (left (left (left c))) = zOf c + 1 := by rw [zOf_left, z2, add_assoc]; rfl
  show partX m g 0 (left (left (left c))) (ix2 i k) + partX m g 1 (left (left c)) (ix2 i k) + partX m g 2 (left c) (ix2 i k)
    + partX m g 3 c (ix2 i k) = _
  rw [partX_apply h z3 h0 i k hi, partX_apply h z2 h1 i k hi, partX_apply h z1 h2 i k hi, partX_apply h rfl h3 i k hi]

/-- The residual at the own rows. -/
theorem resX_apply (h : Shards m A B w) (g : Fin 2) (c : Dev nD) (i : Fin 64) (k : Fin 2048) (hi : ownRow g c + i.val < 2048) :
    resX m g c (ix2 i k) = B (ix2 (⟨ownRow g c + i.val, hi⟩ : Fin 2048) k) := by
  rw [← (h c).2.1]
  refine congrArg (m ((c.tc : Thread nD τ).loc main_arg1)) (funext fun a => Fin.ext ?_)
  match a with
  | ⟨0, _⟩ => show ownRow 0 c + (64 * g.val + i.val) = ownRow g c + i.val; unfold ownRow; simp only [Fin.val_zero]; omega
  | ⟨1, _⟩ => rfl

/-- What a device normalizes is the reference's at its own rows. -/
theorem nrmX_apply (h : Shards m A B w) (g : Fin 2) (c : Dev nD) (i : Fin 64) (k : Fin 2048) (hi : ownRow g c + i.val < 2048) :
    nrmX m g c (ix2 i k) = refOut A B w (ix2 (⟨ownRow g c + i.val, hi⟩ : Fin 2048) k) := by
  unfold nrmX
  rw [nrm_apply, refOut_apply, div_sqrt _ (radicand_pos A B _), γ_eq h]
  simp only [accX_apply h g c i _ hi, resX_apply h g c i _ hi]
  rfl

/-- A row is its owner's own row. -/
theorem own_row (r : Fin 2048) : ownRow (halfOf r.val) (ownerOf r.val r.isLt) + r.val % 64 = r.val := by
  have := r.isLt
  unfold ownRow halfOf ownerOf quarter blk
  simp only
  omega

/-- The whole result is the reference's. -/
theorem outF_eq (h : Shards m A B w) : outF m = refOut A B w := by
  funext j
  obtain ⟨r, k, rfl⟩ : ∃ (r k : Fin 2048), j = ix2 r k := ⟨j 0, j 1, eq_ix2 j⟩
  have e := own_row r
  refine (nrmX_apply h (halfOf r.val) (ownerOf r.val r.isLt) ⟨r.val % 64, Nat.mod_lt _ (by decide)⟩ k (e.symm ▸ r.isLt)).trans ?_
  exact congrArg (fun t => refOut A B w (ix2 t k)) (Fin.ext e)

end Cert.K7

end
-- ==== Proof.lean ====
/-
# The claims

The kernel's run at any float values gives both frames and the value of the kernel's result; the reference's run its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Agree
public import Idealize.ShloMosaic.Adequacy
public import Idealize.ShloMosaic.Init

@[expose] public section

noncomputable section

namespace Cert.Proof

open Idealize.ShloMosaic Idealize.SL.Sem

/-- The idealized kernel runs, leaves its arguments and returns every semaphore to zero. -/
theorem frame_ideal : Cert.quiescent_KernelIdeal := fun m ρ _ =>
  (θ_run Cert.KernelIdeal.defs _ _).mono (fun _ h => ⟨fun c => (h.1 c).2, h.2⟩) (Cert.K7.run_result (F := Ideal) m ρ)

set_option maxRecDepth 65536 in
/-- The kernel's body is the same text as the idealized kernel's. -/
theorem body_eq : @Cert.Kernel.cc0_body Bits _ _ = @Cert.KernelIdeal.cc0_body Bits _ _ := rfl

set_option maxRecDepth 65536 in
/-- So the two tables of bodies agree: each has one label. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- So do the two tables of calls. -/
theorem defs_eq : Cert.Kernel.defs (F := Bits) = Cert.KernelIdeal.defs (F := Bits) :=
  congrArg (Pipeline.defs Cert.KernelIdeal.pcfgs) bodies_eq

/-- The kernel is the same text at the machine's words: its frame is the same run. -/
theorem frame_kernel : Cert.quiescent_Kernel := fun m ρ _ => by
  rw [defs_eq]
  exact (θ_run (Cert.KernelIdeal.defs (F := Bits)) _ _).mono (fun _ h => ⟨fun c => (h.1 c).2, h.2⟩)
    (Cert.K7.run_result (F := Bits) m ρ)

/-- The reference runs, leaves its arguments and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From devices that hold their blocks of the reference's arguments, every device ends holding the reference's whole result. -/
theorem value : Cert.algebraic_KernelIdeal_ReferenceIdeal := fun m ρ m' ρ' _ h =>
  ⟨Cert.K7.refOut _ _ _,
    (θ_run Cert.KernelIdeal.defs _ _).mono (fun _ hr c => ⟨(hr.1 c).1.trans (Cert.K7.outF_eq h), (hr.1 c).2⟩)
      (Cert.K7.run_result (F := Ideal) m ρ),
    (θ_run Cert.ReferenceIdeal.defs _ _).mono (fun _ hr => hr 0) (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  frame_kernel, frame_ideal, frame_reference, trivial, value⟩

end Cert.Proof

end
